-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_largest_scores_finite [hPre_largest_scores_finite : Cert.Pre_largest_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_largest_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_largest_scores_finite [hPre_largest_scores_finite : Cert.Pre_largest_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_largest_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_largest_scores_finite [hKernelIdeal : Cert.KernelIdeal.Facts] [hPre_largest_scores_finite : Cert.Pre_largest_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_largest_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_largest_scores_finite [hReferenceIdeal : Cert.ReferenceIdeal.Facts] [hPre_largest_scores_finite : Cert.Pre_largest_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_largest_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_largest_scores_finite [hKernelIdeal : Cert.KernelIdeal.Facts] [hReferenceIdeal : Cert.ReferenceIdeal.Facts] [hPre_largest_scores_finite : Cert.Pre_largest_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_largest_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v9_1)) (v1 : (c : Dev Cert.KernelIdeal.nD) → Buf (Elt Ideal) ((c.tc : Thread Cert.KernelIdeal.nD Cert.KernelIdeal.τ).loc Cert.KernelIdeal.main_v9_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_1) = v0 c
          ∧ r.2.mem ((c.tc : Thread Cert.KernelIdeal.nD Cert.KernelIdeal.τ).loc Cert.KernelIdeal.main_v9_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def algebraic_KernelIdeal_ReferenceIdeal_on_first_result [hKernelIdeal : Cert.KernelIdeal.Facts] [hReferenceIdeal : Cert.ReferenceIdeal.Facts] [hOn_first_result : Cert.On_first_result.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v9_1)) (v1 : (c : Dev Cert.KernelIdeal.nD) → Buf (Elt Ideal) ((c.tc : Thread Cert.KernelIdeal.nD Cert.KernelIdeal.τ).loc Cert.KernelIdeal.main_v9_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![4, 4096, 2048]⟩ : Shape).Idx, (Cert.On_first_result.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 i = 1#1 → r.2.mem ((c.tc : Thread Cert.KernelIdeal.nD Cert.KernelIdeal.τ).loc Cert.KernelIdeal.main_v9_1) i = v0 c i)
          ∧ (∀ i : (⟨2, ![128, 2048]⟩ : Shape).Idx, (Cert.On_first_result.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2 i = 1#1 → r.2.mem ((c.tc : Thread Cert.KernelIdeal.nD Cert.KernelIdeal.τ).loc Cert.KernelIdeal.main_v9_0) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![4, 4096, 2048]⟩ : Shape).Idx, (Cert.On_first_result.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 i = 1#1 → r.2.mem ((c.tc : Thread Cert.ReferenceIdeal.nD Cert.ReferenceIdeal.τ).loc Cert.ReferenceIdeal.main_v45) i = v0 c i)
          ∧ (∀ i : (⟨2, ![128, 2048]⟩ : Shape).Idx, (Cert.On_first_result.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2 i = 1#1 → r.2.mem ((c.tc : Thread Cert.ReferenceIdeal.nD Cert.ReferenceIdeal.τ).loc Cert.ReferenceIdeal.main_v69) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_largest_scores_finite : Cert.Pre_largest_scores_finite.Facts) (hOn_first_result : Cert.On_first_result.Facts),
    quiescent_Kernel (hKernel := hKernel)
    ∧ quiescent_KernelIdeal (hKernelIdeal := hKernelIdeal)
    ∧ quiescent_KernelIdeal_pre_largest_scores_finite (hKernelIdeal := hKernelIdeal) (hPre_largest_scores_finite := hPre_largest_scores_finite)
    ∧ quiescent_ReferenceIdeal (hReferenceIdeal := hReferenceIdeal)
    ∧ quiescent_ReferenceIdeal_pre_largest_scores_finite (hReferenceIdeal := hReferenceIdeal) (hPre_largest_scores_finite := hPre_largest_scores_finite)
    ∧ preserves_Kernel_KernelIdeal
    ∧ algebraic_KernelIdeal_ReferenceIdeal_pre_largest_scores_finite (hKernelIdeal := hKernelIdeal) (hReferenceIdeal := hReferenceIdeal) (hPre_largest_scores_finite := hPre_largest_scores_finite)
    ∧ algebraic_KernelIdeal_ReferenceIdeal_on_first_result (hKernelIdeal := hKernelIdeal) (hReferenceIdeal := hReferenceIdeal) (hOn_first_result := hOn_first_result)
-- ==== On_first_result.lean ====
abbrev S4x4096x2048 : Shape := ⟨3, ![4, 4096, 2048]⟩
abbrev S_ : Shape := ⟨0, ![]⟩
abbrev S128x2048 : Shape := ⟨2, ![128, 2048]⟩
abbrev S128 : Shape := ⟨1, ![128]⟩
abbrev S2048x2048 : Shape := ⟨2, ![2048, 2048]⟩
abbrev S2048 : Shape := ⟨1, ![2048]⟩
abbrev S24 : Shape := ⟨1, ![24]⟩

class Facts : Prop where
  bcast_S_S4x4096x2048 : S_.BroadcastsInDim S4x4096x2048 (![] : Fin 0 → Fin S4x4096x2048.rank)
  bcast_S_S128x2048 : S_.BroadcastsInDim S128x2048 (![] : Fin 0 → Fin S128x2048.rank)

variable [Facts]

def fn {F : FTy → Type} [FloatOps F] (main_arg0 : FVec F S4x4096x2048 .f32) (main_arg1 : IVec S_ 32) (main_arg2 : FVec F S128x2048 .f32) (main_arg3 : FVec F S128x2048 .f32) (main_arg4 : FVec F S128 .f32) (main_arg5 : FVec F S128x2048 .f32) (main_arg6 : FVec F S128 .f32) (main_arg7 : FVec F S2048x2048 .f32) (main_arg8 : FVec F S2048 .f32) (main_arg9 : FVec F S24 .f32) : IVec S4x4096x2048 1 × IVec S128x2048 1 :=
  let main_c : IVec S_ 1 := constantI S_ 1 1#1
  let main_v0 : IVec S4x4096x2048 1 := broadcastInDim S4x4096x2048 ![] bcast_S_S4x4096x2048 main_c
  let main_c_0 : IVec S_ 1 := constantI S_ 1 0#1
  let main_v1 : IVec S128x2048 1 := broadcastInDim S128x2048 ![] bcast_S_S128x2048 main_c_0
  (main_v0, main_v1)
-- ==== Pre_largest_scores_finite.lean ====
abbrev S4x4096x2048 : Shape := ⟨3, ![4, 4096, 2048]⟩
abbrev S_ : Shape := ⟨0, ![]⟩
abbrev S128x2048 : Shape := ⟨2, ![128, 2048]⟩
abbrev S128 : Shape := ⟨1, ![128]⟩
abbrev S2048x2048 : Shape := ⟨2, ![2048, 2048]⟩
abbrev S2048 : Shape := ⟨1, ![2048]⟩
abbrev S24 : Shape := ⟨1, ![24]⟩
abbrev S4x2048 : Shape := ⟨2, ![4, 2048]⟩
abbrev S2048x128 : Shape := ⟨2, ![2048, 128]⟩
abbrev S4x128 : Shape := ⟨2, ![4, 128]⟩
abbrev S1x128 : Shape := ⟨2, ![1, 128]⟩
abbrev S4 : Shape := ⟨1, ![4]⟩

class Facts : Prop where
  reducesTo_S4x4096x2048_S4x2048_d1 : S4x4096x2048.ReducesTo [1] S4x2048
  h_S_ : 0 < S_.numel
  bcast_S_S4x2048 : S_.BroadcastsInDim S4x2048 (![] : Fin 0 → Fin S4x2048.rank)
  transposes_S128x2048_S2048x128_1_0 : S128x2048.Transposes [1, 0] S2048x128
  bcast_S128_S1x128_1 : S128.BroadcastsInDim S1x128 (![1] : Fin 1 → Fin S1x128.rank)
  bcast_S1x128_S4x128_0_1 : S1x128.BroadcastsInDim S4x128 (![0, 1] : Fin 2 → Fin S4x128.rank)
  reducesTo_S4x128_S4_d1 : S4x128.ReducesTo [1] S4
  bcast_S_S4 : S_.BroadcastsInDim S4 (![] : Fin 0 → Fin S4.rank)
  dot_S4x2048_S2048x128_S4x128_1_0_0_1_n_n_wf : DotDims.WF S4x2048 S2048x128 S4x128 [1] [0] [0] [1] [] []

variable [Facts]

def dot_S4x2048_S2048x128_S4x128_1_0_0_1_n_n : DotDims S4x2048 S2048x128 S4x128 where
  lhsContracting := [1]
  rhsContracting := [0]
  lhsNonContracting := [0]
  rhsNonContracting := [1]
  lhsBatch := []
  rhsBatch := []
  wf := dot_S4x2048_S2048x128_S4x128_1_0_0_1_n_n_wf
def fn {F : FTy → Type} [FloatOps F] (main_arg0 : FVec F S4x4096x2048 .f32) (main_arg1 : IVec S_ 32) (main_arg2 : FVec F S128x2048 .f32) (main_arg3 : FVec F S128x2048 .f32) (main_arg4 : FVec F S128 .f32) (main_arg5 : FVec F S128x2048 .f32) (main_arg6 : FVec F S128 .f32) (main_arg7 : FVec F S2048x2048 .f32) (main_arg8 : FVec F S2048 .f32) (main_arg9 : FVec F S24 .f32) : IVec S4 1 :=
  let main_cst : FVec F S_ .f32 := constant S_ .f32 0x00000000#32
  let main_v0 : FVec F S4x2048 .f32 := (fun x v => Host.reduceAdd x v reducesTo_S4x4096x2048_S4x2048_d1 h_S_) main_arg0 main_cst
  let main_cst_0 : FVec F S_ .f32 := constant S_ .f32 0x45800000#32
  let main_v1 : FVec F S4x2048 .f32 := broadcastInDim S4x2048 ![] bcast_S_S4x2048 main_cst_0
  let main_v2 : FVec F S4x2048 .f32 := Host.divf main_v0 main_v1
  let main_v3 : FVec F S2048x128 .f32 := (transpose S2048x128 [1, 0] · transposes_S128x2048_S2048x128_1_0) main_arg3
  let main_v4 : FVec F S4x128 .f32 := (fun l r => Host.dotGeneral dot_S4x2048_S2048x128_S4x128_1_0_0_1_n_n none l r) main_v2 main_v3
  let main_v5 : FVec F S1x128 .f32 := broadcastInDim S1x128 ![1] bcast_S128_S1x128_1 main_arg4
  let main_v6 : FVec F S4x128 .f32 := broadcastInDim S4x128 ![0, 1] bcast_S1x128_S4x128_0_1 main_v5
  let main_v7 : FVec F S4x128 .f32 := addf main_v4 main_v6
  let main_cst_1 : FVec F S_ .f32 := constant S_ .f32 0xFF800000#32
  let main_v8 : FVec F S4 .f32 := (fun x v => Host.reduce FloatOps.maximumf x v reducesTo_S4x128_S4_d1 h_S_) main_v7 main_cst_1
  let main_v9 : FVec F S4 .f32 := Host.absf main_v8
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  main_v11
-- ==== Kernel.lean ====
abbrev S4x4096x2048 : Shape := ⟨3, ![4, 4096, 2048]⟩
abbrev S_ : Shape := ⟨0, ![]⟩
abbrev S128x2048 : Shape := ⟨2, ![128, 2048]⟩
abbrev S128 : Shape := ⟨1, ![128]⟩
abbrev S2048x2048 : Shape := ⟨2, ![2048, 2048]⟩
abbrev S2048 : Shape := ⟨1, ![2048]⟩
abbrev S24 : Shape := ⟨1, ![24]⟩
abbrev S1 : Shape := ⟨1, ![1]⟩
abbrev S1x1 : Shape := ⟨2, ![1, 1]⟩
abbrev S128x1 : Shape := ⟨2, ![128, 1]⟩
abbrev S1x128 : Shape := ⟨2, ![1, 128]⟩
abbrev S1x2048 : Shape := ⟨2, ![1, 2048]⟩
abbrev S4x128x2048 : Shape := ⟨3, ![4, 128, 2048]⟩
abbrev S4x2048 : Shape := ⟨2, ![4, 2048]⟩
abbrev S4x1x2048 : Shape := ⟨3, ![4, 1, 2048]⟩
abbrev S4x2560x2048 : Shape := ⟨3, ![4, 2560, 2048]⟩
abbrev S4x128 : Shape := ⟨2, ![4, 128]⟩
abbrev S4 : Shape := ⟨1, ![4]⟩
abbrev S4x1 : Shape := ⟨2, ![4, 1]⟩
abbrev S128x4 : Shape := ⟨2, ![128, 4]⟩
abbrev S1x4 : Shape := ⟨2, ![1, 4]⟩

abbrev nBuf : Space → Nat
  | .hbm => 23
  | .vmem => 19
  | .smem => 0
  | _ => 0

abbrev bufTy : (tb : Table) → Fin (tcTables nBuf tb) → BufTy
  | .hbm, ⟨0, _⟩ => ⟨S4x4096x2048, .f32⟩
  | .hbm, ⟨1, _⟩ => ⟨S_, .i32⟩
  | .hbm, ⟨2, _⟩ => ⟨S128x2048, .f32⟩
  | .hbm, ⟨3, _⟩ => ⟨S128x2048, .f32⟩
  | .hbm, ⟨4, _⟩ => ⟨S128, .f32⟩
  | .hbm, ⟨5, _⟩ => ⟨S128x2048, .f32⟩
  | .hbm, ⟨6, _⟩ => ⟨S128, .f32⟩
  | .hbm, ⟨7, _⟩ => ⟨S2048x2048, .f32⟩
  | .hbm, ⟨8, _⟩ => ⟨S2048, .f32⟩
  | .hbm, ⟨9, _⟩ => ⟨S24, .f32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S1, .f32⟩
  | .hbm, ⟨16, _⟩ => ⟨S_, .f32⟩
  | .hbm, ⟨17, _⟩ => ⟨S1x1, .f32⟩
  | .hbm, ⟨18, _⟩ => ⟨S128x1, .f32⟩
  | .hbm, ⟨19, _⟩ => ⟨S1x128, .f32⟩
  | .hbm, ⟨20, _⟩ => ⟨S1x2048, .f32⟩
  | .hbm, ⟨21, _⟩ => ⟨S128x2048, .f32⟩
  | .hbm, ⟨22, _⟩ => ⟨S4x4096x2048, .f32⟩
  | .local _ .vmem, ⟨0, _⟩ => ⟨S4x128x2048, .f32⟩
  | .local _ .vmem, ⟨1, _⟩ => ⟨S4x128x2048, .f32⟩
  | .local _ .vmem, ⟨2, _⟩ => ⟨S128x2048, .f32⟩
  | .local _ .vmem, ⟨3, _⟩ => ⟨S128x1, .f32⟩
  | .local _ .vmem, ⟨4, _⟩ => ⟨S128x2048, .f32⟩
  | .local _ .vmem, ⟨5, _⟩ => ⟨S1x128, .f32⟩
  | .local _ .vmem, ⟨6, _⟩ => ⟨S128x2048, .f32⟩
  | .local _ .vmem, ⟨7, _⟩ => ⟨S128x2048, .f32⟩
  | .local _ .vmem, ⟨8, _⟩ => ⟨S1x2048, .f32⟩
  | .local _ .vmem, ⟨9, _⟩ => ⟨S128x2048, .f32⟩
  | .local _ .vmem, ⟨10, _⟩ => ⟨S1x1, .f32⟩
  | .local _ .vmem, ⟨11, _⟩ => ⟨S128x2048, .f32⟩
  | .local _ .vmem, ⟨12, _⟩ => ⟨S4x128x2048, .f32⟩
  | .local _ .vmem, ⟨13, _⟩ => ⟨S4x128x2048, .f32⟩
  | .local _ .vmem, ⟨14, _⟩ => ⟨S4x2048, .f32⟩
  | .local _ .vmem, ⟨15, _⟩ => ⟨S4x1x2048, .f32⟩
  | .local _ .vmem, ⟨16, _⟩ => ⟨S4x2048, .f32⟩
  | .local _ .vmem, ⟨17, _⟩ => ⟨S128x1, .i32⟩
  | .local _ .vmem, ⟨18, _⟩ => ⟨S4x2560x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_c_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9_0 : Ref sig .tc := ⟨.hbm, 21, rfl⟩
abbrev main_v9_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![64], ![false]⟩

def k0_cond3 (i : grid0.Coords) : BitVec 1 :=
  let arg0 : BitVec 32 := BitVec.ofNat 32 (i 0).val
  let c20_i32 : BitVec 32 := 20#32
  let v6 : BitVec 1 := Scalar.cmpi .slt arg0 c20_i32
  let v7 : BitVec 32 := Scalar.extui v6
  let c0_i32_2 : BitVec 32 := 0#32
  let v8 : BitVec 1 := Scalar.cmpi .ne v7 c0_i32_2
  v8

def k0_off1 (i : grid0.Coords) : Fin 3 → Nat :=
  let c0_13 : Index := 0#32
  let arg0 : BitVec 32 := BitVec.ofNat 32 (i 0).val
  let c128_i32 : BitVec 32 := 128#32
  let v32 : BitVec 32 := Scalar.muli arg0 c128_i32
  let v33 : Index := Scalar.indexCast v32
  let c0_14 : Index := 0#32
  ![0, v33.toNat, 0]
def k0_cond6 (i : grid0.Coords) : BitVec 1 :=
  let arg0 : BitVec 32 := BitVec.ofNat 32 (i 0).val
  let c32_i32_6 : BitVec 32 := 32#32
  let v17 : BitVec 1 := Scalar.cmpi .sgt arg0 c32_i32_6
  let c52_i32 : BitVec 32 := 52#32
  let v18 : BitVec 1 := Scalar.cmpi .sle arg0 c52_i32
  let v19 : BitVec 1 := Scalar.andi v17 v18
  let v20 : BitVec 32 := Scalar.extui v19
  let c0_i32_7 : BitVec 32 := 0#32
  let v21 : BitVec 1 := Scalar.cmpi .ne v20 c0_i32_7
  v21

def k0_off2 (i : grid0.Coords) : Fin 3 → Nat :=
  let c0 : Index := 0#32
  let arg0 : BitVec 32 := BitVec.ofNat 32 (i 0).val
  let c32_i32_11 : BitVec 32 := 32#32
  let v30 : BitVec 32 := Scalar.subi arg0 c32_i32_11
  let c1_i32 : BitVec 32 := 1#32
  let v31 : BitVec 32 := Scalar.subi v30 c1_i32
  let c128_i32 : BitVec 32 := 128#32
  let v32 : BitVec 32 := Scalar.muli v31 c128_i32
  let v33 : Index := Scalar.indexCast v32
  let c0_12 : Index := 0#32
  ![0, v33.toNat, 0]
def k0_cond7 (i : grid0.Coords) : BitVec 1 :=
  let arg0 : BitVec 32 := BitVec.ofNat 32 (i 0).val
  let c32_i32_8 : BitVec 32 := 32#32
  let v22 : BitVec 1 := Scalar.cmpi .sge arg0 c32_i32_8
  let c48_i32 : BitVec 32 := 48#32
  let v23 : BitVec 1 := Scalar.cmpi .slt arg0 c48_i32
  let v24 : BitVec 1 := Scalar.andi v22 v23
  let v25 : BitVec 32 := Scalar.extui v24
  let c0_i32_9 : BitVec 32 := 0#32
  let v26 : BitVec 1 := Scalar.cmpi .ne v25 c0_i32_9
  v26

def k0_off3 (i : grid0.Coords) : Fin 2 → Nat :=
  let c0_15 : Index := 0#32
  let arg0 : BitVec 32 := BitVec.ofNat 32 (i 0).val
  let c32_i32_11 : BitVec 32 := 32#32
  let v30 : BitVec 32 := Scalar.subi arg0 c32_i32_11
  let c128_i32 : BitVec 32 := 128#32
  let v34 : BitVec 32 := Scalar.muli v30 c128_i32
  let v35 : Index := Scalar.indexCast v34
  ![0, v35.toNat]
def k0_off4 (i : grid0.Coords) : Fin 2 → Nat :=
  let c0_17 : Index := 0#32
  let arg0 : BitVec 32 := BitVec.ofNat 32 (i 0).val
  let c32_i32_11 : BitVec 32 := 32#32
  let v30 : BitVec 32 := Scalar.subi arg0 c32_i32_11
  let c128_i32_16 : BitVec 32 := 128#32
  let v40 : BitVec 32 := Scalar.muli v30 c128_i32_16
  let v41 : Index := Scalar.indexCast v40
  ![0, v41.toNat]
def k0_cond8 (i : grid0.Coords) : BitVec 1 :=
  let arg0 : BitVec 32 := BitVec.ofNat 32 (i 0).val
  let c47_i32 : BitVec 32 := 47#32
  let v27 : BitVec 1 := Scalar.cmpi .eq arg0 c47_i32
  let v28 : BitVec 32 := Scalar.extui v27
  let c0_i32_10 : BitVec 32 := 0#32
  let v29 : BitVec 1 := Scalar.cmpi .ne v28 c0_i32_10
  v29

def k0_cond5 (i : grid0.Coords) : BitVec 1 :=
  let arg0 : BitVec 32 := BitVec.ofNat 32 (i 0).val
  let c32_i32_4 : BitVec 32 := 32#32
  let v12 : BitVec 1 := Scalar.cmpi .eq arg0 c32_i32_4
  let c53_i32 : BitVec 32 := 53#32
  let v13 : BitVec 1 := Scalar.cmpi .sge arg0 c53_i32
  let v14 : BitVec 1 := Scalar.ori v12 v13
  let v15 : BitVec 32 := Scalar.extui v14
  let c0_i32_5 : BitVec 32 := 0#32
  let v16 : BitVec 1 := Scalar.cmpi .ne v15 c0_i32_5
  v16

def cc0_transform_0 (i : grid0.Coords) : Fin 3 → Nat :=
  let arg0 : BitVec 32 := BitVec.ofNat 32 (i 0).val
  let c32_i32 : BitVec 32 := 32#32
  let v0 : BitVec 32 := Scalar.subi arg0 c32_i32
  let c32_i32_0 : BitVec 32 := 32#32
  let v1 : BitVec 1 := Scalar.cmpi .slt arg0 c32_i32_0
  let c20_i32 : BitVec 32 := 20#32
  let v2 : BitVec 1 := Scalar.cmpi .sgt v0 c20_i32
  let c1_i32 : BitVec 32 := 1#32
  let v3 : BitVec 32 := Scalar.subi v0 c1_i32
  let c31_i32 : BitVec 32 := 31#32
  let v4 : BitVec 32 := Scalar.select v2 v3 c31_i32
  let v5 : BitVec 32 := Scalar.select v1 arg0 v4
  let c0_i32 : BitVec 32 := 0#32
  let c0_i32_1 : BitVec 32 := 0#32
  let c0_i32_2 : BitVec 32 := 0#32
  ![c0_i32.toNat, v5.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c32_i32 : BitVec 32 := 32#32
  let v0 : BitVec 1 := Scalar.cmpi .sle arg0 c32_i32
  let c32_i32_0 : BitVec 32 := 32#32
  let v1 : BitVec 32 := Scalar.subi arg0 c32_i32_0
  let c1_i32 : BitVec 32 := 1#32
  let v2 : BitVec 32 := Scalar.subi v1 c1_i32
  let c31_i32 : BitVec 32 := 31#32
  let v3 : BitVec 32 := Scalar.select v0 c31_i32 v2
  let c0_i32 : BitVec 32 := 0#32
  let c0_i32_1 : BitVec 32 := 0#32
  let c0_i32_2 : BitVec 32 := 0#32
  ![c0_i32.toNat, v3.toNat, c0_i32_1.toNat]

abbrev stage0_0 : Fin 2 → Memref sig .tc .vmem S4x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4x128x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S4x4096x2048 : Shape := ⟨3, ![4, 4096, 2048]⟩
abbrev S_ : Shape := ⟨0, ![]⟩
abbrev S128x2048 : Shape := ⟨2, ![128, 2048]⟩
abbrev S128 : Shape := ⟨1, ![128]⟩
abbrev S2048x2048 : Shape := ⟨2, ![2048, 2048]⟩
abbrev S2048 : Shape := ⟨1, ![2048]⟩
abbrev S24 : Shape := ⟨1, ![24]⟩
abbrev S4x2048 : Shape := ⟨2, ![4, 2048]⟩
abbrev S2048x128 : Shape := ⟨2, ![2048, 128]⟩
abbrev S4x128 : Shape := ⟨2, ![4, 128]⟩
abbrev S1x128 : Shape := ⟨2, ![1, 128]⟩
abbrev S4 : Shape := ⟨1, ![4]⟩
abbrev S4x1 : Shape := ⟨2, ![4, 1]⟩
abbrev S4x1x2048 : Shape := ⟨3, ![4, 1, 2048]⟩
abbrev S1 : Shape := ⟨1, ![1]⟩
abbrev S1x2048 : Shape := ⟨2, ![1, 2048]⟩
abbrev S4x16 : Shape := ⟨2, ![4, 16]⟩
abbrev S64 : Shape := ⟨1, ![64]⟩
abbrev S4x16x2048 : Shape := ⟨3, ![4, 16, 2048]⟩
abbrev S64x2048 : Shape := ⟨2, ![64, 2048]⟩
abbrev S64x1 : Shape := ⟨2, ![64, 1]⟩

abbrev nBuf : Space → Nat
  | .hbm => 98
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S_, .i32⟩
  | .hbm, ⟨2, _⟩ => ⟨S128x2048, .f32⟩
  | .hbm, ⟨3, _⟩ => ⟨S128x2048, .f32⟩
  | .hbm, ⟨4, _⟩ => ⟨S128, .f32⟩
  | .hbm, ⟨5, _⟩ => ⟨S128x2048, .f32⟩
  | .hbm, ⟨6, _⟩ => ⟨S128, .f32⟩
  | .hbm, ⟨7, _⟩ => ⟨S2048x2048, .f32⟩
  | .hbm, ⟨8, _⟩ => ⟨S2048, .f32⟩
  | .hbm, ⟨9, _⟩ => ⟨S24, .f32⟩
  | .hbm, ⟨10, _⟩ => ⟨S_, .f32⟩
  | .hbm, ⟨11, _⟩ => ⟨S4x2048, .f32⟩
  | .hbm, ⟨12, _⟩ => ⟨S_, .f32⟩
  | .hbm, ⟨13, _⟩ => ⟨S4x2048, .f32⟩
  | .hbm, ⟨14, _⟩ => ⟨S4x2048, .f32⟩
  | .hbm, ⟨15, _⟩ => ⟨S2048x128, .f32⟩
  | .hbm, ⟨16, _⟩ => ⟨S4x128, .f32⟩
  | .hbm, ⟨17, _⟩ => ⟨S1x128, .f32⟩
  | .hbm, ⟨18, _⟩ => ⟨S4x128, .f32⟩
  | .hbm, ⟨19, _⟩ => ⟨S4x128, .f32⟩
  | .hbm, ⟨20, _⟩ => ⟨S_, .f32⟩
  | .hbm, ⟨21, _⟩ => ⟨S4, .f32⟩
  | .hbm, ⟨22, _⟩ => ⟨S_, .f32⟩
  | .hbm, ⟨23, _⟩ => ⟨S4, .f32⟩
  | .hbm, ⟨24, _⟩ => ⟨S4, .f32⟩
  | .hbm, ⟨25, _⟩ => ⟨S4x1, .f32⟩
  | .hbm, ⟨26, _⟩ => ⟨S4x128, .f32⟩
  | .hbm, ⟨27, _⟩ => ⟨S4x128, .f32⟩
  | .hbm, ⟨28, _⟩ => ⟨S4x128, .f32⟩
  | .hbm, ⟨29, _⟩ => ⟨S_, .f32⟩
  | .hbm, ⟨30, _⟩ => ⟨S4, .f32⟩
  | .hbm, ⟨31, _⟩ => ⟨S4x1, .f32⟩
  | .hbm, ⟨32, _⟩ => ⟨S4x128, .f32⟩
  | .hbm, ⟨33, _⟩ => ⟨S4x128, .f32⟩
  | .hbm, ⟨34, _⟩ => ⟨S2048x128, .f32⟩
  | .hbm, ⟨35, _⟩ => ⟨S4x128, .f32⟩
  | .hbm, ⟨36, _⟩ => ⟨S1x128, .f32⟩
  | .hbm, ⟨37, _⟩ => ⟨S4x128, .f32⟩
  | .hbm, ⟨38, _⟩ => ⟨S4x128, .f32⟩
  | .hbm, ⟨39, _⟩ => ⟨S_, .f32⟩
  | .hbm, ⟨40, _⟩ => ⟨S4, .f32⟩
  | .hbm, ⟨41, _⟩ => ⟨S_, .f32⟩
  | .hbm, ⟨42, _⟩ => ⟨S4, .f32⟩
  | .hbm, ⟨43, _⟩ => ⟨S4, .f32⟩
  | .hbm, ⟨44, _⟩ => ⟨S4x1, .f32⟩
  | .hbm, ⟨45, _⟩ => ⟨S4x128, .f32⟩
  | .hbm, ⟨46, _⟩ => ⟨S4x128, .f32⟩
  | .hbm, ⟨47, _⟩ => ⟨S4x128, .f32⟩
  | .hbm, ⟨48, _⟩ => ⟨S_, .f32⟩
  | .hbm, ⟨49, _⟩ => ⟨S4, .f32⟩
  | .hbm, ⟨50, _⟩ => ⟨S4x1, .f32⟩
  | .hbm, ⟨51, _⟩ => ⟨S4x128, .f32⟩
  | .hbm, ⟨52, _⟩ => ⟨S4x128, .f32⟩
  | .hbm, ⟨53, _⟩ => ⟨S4x2048, .f32⟩
  | .hbm, ⟨54, _⟩ => ⟨S4x1x2048, .f32⟩
  | .hbm, ⟨55, _⟩ => ⟨S4x4096x2048, .f32⟩
  | .hbm, ⟨56, _⟩ => ⟨S_, .i32⟩
  | .hbm, ⟨57, _⟩ => ⟨S_, .i1⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S1, .f32⟩
  | .hbm, ⟨62, _⟩ => ⟨S_, .f32⟩
  | .hbm, ⟨63, _⟩ => ⟨S4x4096x2048, .f32⟩
  | .hbm, ⟨64, _⟩ => ⟨S4x4096x2048, .f32⟩
  | .hbm, ⟨65, _⟩ => ⟨S4x4096x2048, .f32⟩
  | .hbm, ⟨66, _⟩ => ⟨S_, .f32⟩
  | .hbm, ⟨67, _⟩ => ⟨S4x2048, .f32⟩
  | .hbm, ⟨68, _⟩ => ⟨S_, .f32⟩
  | .hbm, ⟨69, _⟩ => ⟨S4x2048, .f32⟩
  | .hbm, ⟨70, _⟩ => ⟨S4x2048, .f32⟩
  | .hbm, ⟨71, _⟩ => ⟨S2048x2048, .f32⟩
  | .hbm, ⟨72, _⟩ => ⟨S4x2048, .f32⟩
  | .hbm, ⟨73, _⟩ => ⟨S1x2048, .f32⟩
  | .hbm, ⟨74, _⟩ => ⟨S4x2048, .f32⟩
  | .hbm, ⟨75, _⟩ => ⟨S4x2048, .f32⟩
  | .hbm, ⟨76, _⟩ => ⟨S4x2048, .f32⟩
  | .hbm, ⟨77, _⟩ => ⟨S4x2048, .f32⟩
  | .hbm, ⟨78, _⟩ => ⟨S_, .f32⟩
  | .hbm, ⟨79, _⟩ => ⟨S4x2048, .f32⟩
  | .hbm, ⟨80, _⟩ => ⟨S4x2048, .f32⟩
  | .hbm, ⟨81, _⟩ => ⟨S_, .f32⟩
  | .hbm, ⟨82, _⟩ => ⟨S4x2048, .f32⟩
  | .hbm, ⟨83, _⟩ => ⟨S4x2048, .f32⟩
  | .hbm, ⟨84, _⟩ => ⟨S4x16, .f32⟩
  | .hbm, ⟨85, _⟩ => ⟨S4x16, .i32⟩
  | .hbm, ⟨86, _⟩ => ⟨S64, .i32⟩
  | .hbm, ⟨87, _⟩ => ⟨S4x16x2048, .f32⟩
  | .hbm, ⟨88, _⟩ => ⟨S64x2048, .f32⟩
  | .hbm, ⟨89, _⟩ => ⟨S_, .i32⟩
  | .hbm, ⟨90, _⟩ => ⟨S64, .i32⟩
  | .hbm, ⟨91, _⟩ => ⟨S64, .i1⟩
  | .hbm, ⟨92, _⟩ => ⟨S_, .i32⟩
  | .hbm, ⟨93, _⟩ => ⟨S64, .i32⟩
  | .hbm, ⟨94, _⟩ => ⟨S64, .i32⟩
  | .hbm, ⟨95, _⟩ => ⟨S64, .i32⟩
  | .hbm, ⟨96, _⟩ => ⟨S64x1, .i32⟩
  | .hbm, ⟨97, _⟩ => ⟨S128x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c : Ref sig .tc := ⟨.hbm, 56, rfl⟩
abbrev main_v38 : Ref sig .tc := ⟨.hbm, 57, rfl⟩
abbrev main_c_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_8 : Ref sig .tc := ⟨.hbm, 66, rfl⟩
abbrev main_v46 : Ref sig .tc := ⟨.hbm, 67, rfl⟩
abbrev main_cst_9 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_values : Ref sig .tc := ⟨.hbm, 84, rfl⟩
abbrev main_indices : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_c_12 : Ref sig .tc := ⟨.hbm, 89, rfl⟩
abbrev main_v63 : Ref sig .tc := ⟨.hbm, 90, rfl⟩
abbrev main_v64 : Ref sig .tc := ⟨.hbm, 91, rfl⟩
abbrev main_c_13 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩

abbrev nD : Nat := 1
abbrev τ : Topo := Topo.v7x

variable {F : FTy → Type} [FloatOps F]
-- ==== Proof.KI.Values.lean ====
module

public import proofs.«01_k».proof.Proof.Gen.KernelIdeal.Frame
public import proofs.«01_k».proof.Proof.Gen.KernelIdeal.Skeleton
public import Idealize.ShloMosaic.Lib.VecWindow

/-! What one grid point of the fused kernel leaves in each buffer, as functions of what it found there. -/

@[expose] public section

set_option maxRecDepth 16384

noncomputable section

namespace Cert.KernelIdeal.Hand

open Cert.KernelIdeal Cert.KernelIdeal.Gen
open Idealize.ShloMosaic

variable {F : FTy → Type} [FloatOps F]

/-- The condition of the first branch: the first grid point. -/
def c1 (i : grid0.Coords) : BitVec 1 := Scalar.cmpi .ne (Scalar.extui (Scalar.cmpi .eq (BitVec.ofNat 32 (i 0).val) 0#32) : BitVec 32) 0#32
/-- The condition of the second branch: the grid points of the first phase. -/
def c2 (i : grid0.Coords) : BitVec 1 := Scalar.cmpi .ne (Scalar.extui (Scalar.cmpi .slt (BitVec.ofNat 32 (i 0).val) 32#32) : BitVec 32) 0#32
/-- The condition of the fourth branch: the last grid point of the first phase. -/
def c4 (i : grid0.Coords) : BitVec 1 := Scalar.cmpi .ne (Scalar.extui (Scalar.cmpi .eq (BitVec.ofNat 32 (i 0).val) 31#32) : BitVec 32) 0#32

/-- The accumulator after the first two branches: reset at the first point, then the block's rows added in the first phase. -/
def accIn (i : grid0.Coords) (x1 : Vec F S4x128x2048 .f32) (x12 : Vec F S4x2048 .f32) : Vec F S4x2048 .f32 :=
  if c2 i = 1#1 then k0_pay2 (if c1 i = 1#1 then k0_pay1 else x12) x1 else if c1 i = 1#1 then k0_pay1 else x12

/-- The pooled mean plus the retrieved memory: what the fourth branch leaves in the accumulator. -/
def accVal (a : Vec F S4x2048 .f32) (x9 : Vec F S1x1 .f32) (x4 : Vec F S128x2048 .f32) (x5 : Vec F S1x128 .f32) (x8 : Vec F S128x2048 .f32) :
    Vec F S4x2048 .f32 := k0_pay48 (k0_pay8 a) (k0_pay9 a x9 x4 x5 x8)

/-- The accumulator a grid point leaves. -/
def accOut (i : grid0.Coords) (x1 : Vec F S4x128x2048 .f32) (x12 : Vec F S4x2048 .f32) (x9 : Vec F S1x1 .f32) (x4 : Vec F S128x2048 .f32)
    (x5 : Vec F S1x128 .f32) (x8 : Vec F S128x2048 .f32) : Vec F S4x2048 .f32 :=
  if c4 i = 1#1 then accVal (accIn i x1 x12) x9 x4 x5 x8 else accIn i x1 x12

/-- The scaled retrieved memory a grid point leaves. -/
def addOut (i : grid0.Coords) (x1 : Vec F S4x128x2048 .f32) (x12 : Vec F S4x2048 .f32) (x9 : Vec F S1x1 .f32) (x4 : Vec F S128x2048 .f32)
    (x5 : Vec F S1x128 .f32) (x8 : Vec F S128x2048 .f32) (x13 : Vec F S4x1x2048 .f32) : Vec F S4x1x2048 .f32 :=
  if c4 i = 1#1 then k0_pay10 (accIn i x1 x12) x9 x4 x5 x8 else x13

/-- The row numbers of the allocation table. -/
def rowIota : IVec S128x4 32 := iota .tc S128x4 32 [0] iota_S128x4_d0_w32
/-- The allocation scores, before their softmax. -/
def w63 (a : Vec F S4x2048 .f32) (x2 : Vec F S128x2048 .f32) (x3 : Vec F S128x1 .f32) : FVec F S128x4 .f32 := k0_pay11 a x2 x3
/-- The column maxima of the allocation scores. -/
def w64 (a : Vec F S4x2048 .f32) (x2 : Vec F S128x2048 .f32) (x3 : Vec F S128x1 .f32) : FVec F S4 .f32 := k0_pay12 a x2 x3
/-- The allocation table after three selection rounds. -/
def w100 (a : Vec F S4x2048 .f32) (x2 : Vec F S128x2048 .f32) (x3 : Vec F S128x1 .f32) : FVec F S128x4 .f32 := k0_pay17 (w63 a x2 x3) (w64 a x2 x3)
/-- The fourth round's picks. -/
def w110 (a : Vec F S4x2048 .f32) (x2 : Vec F S128x2048 .f32) (x3 : Vec F S128x1 .f32) : IVec S128x4 1 := k0_pay18 (w63 a x2 x3) (w64 a x2 x3)
/-- The picks of the first four rounds. -/
def w111 (a : Vec F S4x2048 .f32) (x2 : Vec F S128x2048 .f32) (x3 : Vec F S128x1 .f32) : IVec S128x4 1 := k0_pay19 (w63 a x2 x3) (w64 a x2 x3)
/-- The picks of the first eight rounds. -/
def w150 (a : Vec F S4x2048 .f32) (x2 : Vec F S128x2048 .f32) (x3 : Vec F S128x1 .f32) : IVec S128x4 1 :=
  k0_pay26 rowIota (w100 a x2 x3) (w110 a x2 x3) (w111 a x2 x3)
/-- The allocation table after seven rounds, with the eighth round's mask taken off. -/
def w152 (a : Vec F S4x2048 .f32) (x2 : Vec F S128x2048 .f32) (x3 : Vec F S128x1 .f32) : FVec F S128x4 .f32 :=
  k0_pay27 rowIota (w100 a x2 x3) (w110 a x2 x3)
/-- The rows equal to the column maximum in the next round. -/
def w156 (a : Vec F S4x2048 .f32) (x2 : Vec F S128x2048 .f32) (x3 : Vec F S128x1 .f32) : IVec S128x4 1 :=
  k0_pay28 rowIota (w100 a x2 x3) (w110 a x2 x3)
/-- The allocation table later in the rounds. -/
def w191 (a : Vec F S4x2048 .f32) (x2 : Vec F S128x2048 .f32) (x3 : Vec F S128x1 .f32) : FVec F S128x4 .f32 :=
  k0_pay34 rowIota (w152 a x2 x3) (w156 a x2 x3) 128#32
/-- One round's picks on that table. -/
def w201 (a : Vec F S4x2048 .f32) (x2 : Vec F S128x2048 .f32) (x3 : Vec F S128x1 .f32) : IVec S128x4 1 :=
  k0_pay35 rowIota (w152 a x2 x3) (w156 a x2 x3) 128#32
/-- All picks so far. -/
def w202 (a : Vec F S4x2048 .f32) (x2 : Vec F S128x2048 .f32) (x3 : Vec F S128x1 .f32) : IVec S128x4 1 :=
  k0_pay36 rowIota (w150 a x2 x3) (w152 a x2 x3) (w156 a x2 x3) 128#32
/-- The largest batch number whose top entries hold the row, or minus one: what the fourth branch leaves in the winners' buffer. -/
def winVal (a : Vec F S4x2048 .f32) (x2 : Vec F S128x2048 .f32) (x3 : Vec F S128x1 .f32) : IVec S128x1 32 :=
  k0_pay47 rowIota
    (k0_pay43 rowIota (w191 a x2 x3) (w201 a x2 x3) (w202 a x2 x3) (Scalar.ofBits .f32 0xFF800000#32))
    (k0_pay44 rowIota (w191 a x2 x3) (w201 a x2 x3) (Scalar.ofBits .f32 0xFF800000#32))
    (k0_pay45 rowIota (w191 a x2 x3) (w201 a x2 x3) (Scalar.ofBits .f32 0xFF800000#32)) k0_pay46

/-- The winners a grid point leaves. -/
def winOut (i : grid0.Coords) (x1 : Vec F S4x128x2048 .f32) (x12 : Vec F S4x2048 .f32) (x2 : Vec F S128x2048 .f32) (x3 : Vec F S128x1 .f32)
    (x15 : Vec F S128x1 .i32) : Vec F S128x1 .i32 := if c4 i = 1#1 then winVal (accIn i x1 x12) x2 x3 else x15

/-- The cached rows a grid point leaves. -/
def cacheOut (i : grid0.Coords) (x1 : Vec F S4x128x2048 .f32) (x16 : Vec F S4x2560x2048 .bf16) : Vec F S4x2560x2048 .bf16 :=
  if k0_cond3 i = 1#1 then VecWindow.put x16 (k0_off1 i) S4x128x2048.size (k0_pay3 x1) else x16

/-- The combined block a grid point leaves, from the addition `av` and the cache `ca` then held. -/
def combOut (i : grid0.Coords) (x1 : Vec F S4x128x2048 .f32) (av : Vec F S4x1x2048 .f32) (ca : Vec F S4x2560x2048 .bf16)
    (x11 : Vec F S4x128x2048 .f32) : Vec F S4x128x2048 .f32 :=
  if h : k0_cond6 i = 1#1 then k0_pay5 (VecWindow.window ca (k0_off2 i) S4x128x2048.size (k0_off2_inb i h)) av
  else if k0_cond5 i = 1#1 then k0_pay4 x1 av else x11

/-- The update columns a grid point leaves, from the accumulator `ac` then held. -/
def updOut (i : grid0.Coords) (ac : Vec F S4x2048 .f32) (x6 : Vec F S128x2048 .f32) (x7 : Vec F S1x2048 .f32) (x14 : Vec F S4x2048 .f32) :
    Vec F S4x2048 .f32 :=
  if h : k0_cond7 i = 1#1 then
    VecWindow.put x14 (k0_off4 i) S4x128.size (k0_pay6 ac x6 (VecWindow.window x7 (k0_off3 i) S1x128.size (k0_off3_inb i h)))
  else x14

/-- The new bank a grid point leaves, from the updates and the winners then held. -/
def bankOut (i : grid0.Coords) (up : Vec F S4x2048 .f32) (wi : Vec F S128x1 .i32) (x8 : Vec F S128x2048 .f32) (x10 : Vec F S128x2048 .f32) :
    Vec F S128x2048 .f32 := if k0_cond8 i = 1#1 then k0_pay7 up wi x8 else x10

end Cert.KernelIdeal.Hand

end
-- ==== Proof.KI.Run.lean ====
module

public import proofs.«01_k».proof.Proof.KI.Values
public import Idealize.ShloMosaic.Lib.Pipeline.Frame
public import Idealize.ShloMosaic.Lib.Tactic
public import Idealize.ShloMosaic.Lib.Exec
public import Idealize.ShloMosaic.Lib.Pipeline.TableIdle

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Whole
variable {sp : Space} {e : EltTy} {Val : EltTy → Type}

/-- A load of the whole of `S4x2048` reads everything. -/
theorem load_S4x2048 (v : View sig .tc sp S4x2048 e) (f : v.ty.Contents Val) (h) :
    v.readAt Val (Rect.unit (s := S4x2048) ![0, 0] ![4, 2048] h).toLoadRect f = v.read Val f := View.readAt_full v f h
/-- A store over the whole of `S4x2048` leaves its payload. -/
theorem store_S4x2048 (v : View sig .tc sp S4x2048 e) (f : v.ty.Contents Val) (h) (w) (L : List (View.Piece Val S4x2048 e)) :
    v.read Val (v.writes Val f (⟨Rect.unit (s := S4x2048) ![0, 0] ![4, 2048] h, w⟩ :: L)) = w := View.read_writes_full v f h w L
/-- A load of the whole of `S4x128x2048` reads everything. -/
theorem load_S4x128x2048 (v : View sig .tc sp S4x128x2048 e) (f : v.ty.Contents Val) (h) :
    v.readAt Val (Rect.unit (s := S4x128x2048) ![0, 0, 0] ![4, 128, 2048] h).toLoadRect f = v.read Val f := View.readAt_full v f h
/-- A store over the whole of `S4x128x2048` leaves its payload. -/
theorem store_S4x128x2048 (v : View sig .tc sp S4x128x2048 e) (f : v.ty.Contents Val) (h) (w) (L : List (View.Piece Val S4x128x2048 e)) :
    v.read Val (v.writes Val f (⟨Rect.unit (s := S4x128x2048) ![0, 0, 0] ![4, 128, 2048] h, w⟩ :: L)) = w := View.read_writes_full v f h w L
/-- A load of the whole of `S1x1` reads everything. -/
theorem load_S1x1 (v : View sig .tc sp S1x1 e) (f : v.ty.Contents Val) (h) :
    v.readAt Val (Rect.unit (s := S1x1) ![0, 0] ![1, 1] h).toLoadRect f = v.read Val f := View.readAt_full v f h
/-- A load of the whole of `S128x2048` reads everything. -/
theorem load_S128x2048 (v : View sig .tc sp S128x2048 e) (f : v.ty.Contents Val) (h) :
    v.readAt Val (Rect.unit (s := S128x2048) ![0, 0] ![128, 2048] h).toLoadRect f = v.read Val f := View.readAt_full v f h
/-- A store over the whole of `S128x2048` leaves its payload. -/
theorem store_S128x2048 (v : View sig .tc sp S128x2048 e) (f : v.ty.Contents Val) (h) (w) (L : List (View.Piece Val S128x2048 e)) :
    v.read Val (v.writes Val f (⟨Rect.unit (s := S128x2048) ![0, 0] ![128, 2048] h, w⟩ :: L)) = w := View.read_writes_full v f h w L
/-- A load of the whole of `S1x128` reads everything. -/
theorem load_S1x128 (v : View sig .tc sp S1x128 e) (f : v.ty.Contents Val) (h) :
    v.readAt Val (Rect.unit (s := S1x128) ![0, 0] ![1, 128] h).toLoadRect f = v.read Val f := View.readAt_full v f h
/-- A load of the whole of `S128x1` reads everything. -/
theorem load_S128x1 (v : View sig .tc sp S128x1 e) (f : v.ty.Contents Val) (h) :
    v.readAt Val (Rect.unit (s := S128x1) ![0, 0] ![128, 1] h).toLoadRect f = v.read Val f := View.readAt_full v f h
/-- A store over the whole of `S128x1` leaves its payload. -/
theorem store_S128x1 (v : View sig .tc sp S128x1 e) (f : v.ty.Contents Val) (h) (w) (L : List (View.Piece Val S128x1 e)) :
    v.read Val (v.writes Val f (⟨Rect.unit (s := S128x1) ![0, 0] ![128, 1] h, w⟩ :: L)) = w := View.read_writes_full v f h w L
/-- A load of the whole of `S4x1x2048` reads everything. -/
theorem load_S4x1x2048 (v : View sig .tc sp S4x1x2048 e) (f : v.ty.Contents Val) (h) :
    v.readAt Val (Rect.unit (s := S4x1x2048) ![0, 0, 0] ![4, 1, 2048] h).toLoadRect f = v.read Val f := View.readAt_full v f h
/-- A store over the whole of `S4x1x2048` leaves its payload. -/
theorem store_S4x1x2048 (v : View sig .tc sp S4x1x2048 e) (f : v.ty.Contents Val) (h) (w) (L : List (View.Piece Val S4x1x2048 e)) :
    v.read Val (v.writes Val f (⟨Rect.unit (s := S4x1x2048) ![0, 0, 0] ![4, 1, 2048] h, w⟩ :: L)) = w := View.read_writes_full v f h w L

/-- A load of a part of a buffer reads the window there. -/
theorem load_window {s : Shape} (v : View sig .tc sp s e) (f : v.ty.Contents Val) {off size : Fin s.rank → ℕ} (h) :
    v.readAt Val (Rect.unit off size h).toLoadRect f = VecWindow.window (v.read Val f) off size h := View.readAt_unit v f h rfl h
/-- A store into a part of a buffer puts the payload there. -/
theorem store_window [∀ e, Nonempty (Val e)] {s : Shape} (v : View sig .tc sp s e) (x : s.Idx → Val e) {off size : Fin s.rank → ℕ} (h) (w) :
    v.read Val (v.writes Val (v.rep x) [⟨Rect.unit off size h, w⟩]) = VecWindow.put x off size w := View.read_writes_rep_unit v x h w rfl

end Whole

set_option maxHeartbeats 2000000 in
/-- One grid point of the fused kernel: every buffer found at given contents is left at the contents `Values` states. -/
theorem kernelRun (c : Dev nD) (i : grid0.Coords)
    (arg1 : Memref sig .tc .vmem S4x128x2048 .f32) (harg1 : arg1.IsWhole) (arg2 : Memref sig .tc .vmem S128x2048 .f32) (harg2 : arg2.IsWhole)
    (arg3 : Memref sig .tc .vmem S128x1 .f32) (harg3 : arg3.IsWhole) (arg4 : Memref sig .tc .vmem S128x2048 .f32) (harg4 : arg4.IsWhole)
    (arg5 : Memref sig .tc .vmem S1x128 .f32) (harg5 : arg5.IsWhole) (arg6 : Memref sig .tc .vmem S128x2048 .f32) (harg6 : arg6.IsWhole)
    (arg7 : Memref sig .tc .vmem S1x2048 .f32) (harg7 : arg7.IsWhole) (arg8 : Memref sig .tc .vmem S128x2048 .f32) (harg8 : arg8.IsWhole)
    (arg9 : Memref sig .tc .vmem S1x1 .f32) (harg9 : arg9.IsWhole) (arg10 : Memref sig .tc .vmem S128x2048 .f32) (harg10 : arg10.IsWhole)
    (arg11 : Memref sig .tc .vmem S4x128x2048 .f32) (harg11 : arg11.IsWhole) (arg12 : Memref sig .tc .vmem S4x2048 .f32) (harg12 : arg12.IsWhole)
    (arg13 : Memref sig .tc .vmem S4x1x2048 .f32) (harg13 : arg13.IsWhole) (arg14 : Memref sig .tc .vmem S4x2048 .f32) (harg14 : arg14.IsWhole)
    (arg15 : Memref sig .tc .vmem S128x1 .i32) (harg15 : arg15.IsWhole) (arg16 : Memref sig .tc .vmem S4x2560x2048 .bf16) (harg16 : arg16.IsWhole)
    (X1 X2 X3 X4 X5 X6 X7 X8 X9 X10 X11 X12 X13 X14 X15 X16) (K : PUnit → sProp 𝕄) :
    iprop(owns (c : Thread nD τ) arg1 fullShare X1 ∗ owns (c : Thread nD τ) arg2 fullShare X2 ∗ owns (c : Thread nD τ) arg3 fullShare X3
        ∗ owns (c : Thread nD τ) arg4 fullShare X4 ∗ owns (c : Thread nD τ) arg5 fullShare X5 ∗ owns (c : Thread nD τ) arg6 fullShare X6
        ∗ owns (c : Thread nD τ) arg7 fullShare X7 ∗ owns (c : Thread nD τ) arg8 fullShare X8 ∗ owns (c : Thread nD τ) arg9 fullShare X9
        ∗ owns (c : Thread nD τ) arg10 fullShare X10 ∗ owns (c : Thread nD τ) arg11 fullShare X11 ∗ owns (c : Thread nD τ) arg12 fullShare X12
        ∗ owns (c : Thread nD τ) arg13 fullShare X13 ∗ owns (c : Thread nD τ) arg14 fullShare X14 ∗ owns (c : Thread nD τ) arg15 fullShare X15
        ∗ owns (c : Thread nD τ) arg16 fullShare X16 ∗
        (owns (c : Thread nD τ) arg1 fullShare X1 ∗ owns (c : Thread nD τ) arg2 fullShare X2 ∗ owns (c : Thread nD τ) arg3 fullShare X3
        ∗ owns (c : Thread nD τ) arg4 fullShare X4 ∗ owns (c : Thread nD τ) arg5 fullShare X5 ∗ owns (c : Thread nD τ) arg6 fullShare X6
        ∗ owns (c : Thread nD τ) arg7 fullShare X7 ∗ owns (c : Thread nD τ) arg8 fullShare X8 ∗ owns (c : Thread nD τ) arg9 fullShare X9
        ∗ owns (c : Thread nD τ) arg10 fullShare (bankOut i (updOut i (accOut i X1 X12 X9 X4 X5 X8) X6 X7 X14) (winOut i X1 X12 X2 X3 X15) X8 X10)
        ∗ owns (c : Thread nD τ) arg11 fullShare (combOut i X1 (addOut i X1 X12 X9 X4 X5 X8 X13) (cacheOut i X1 X16) X11)
        ∗ owns (c : Thread nD τ) arg12 fullShare (accOut i X1 X12 X9 X4 X5 X8)
        ∗ owns (c : Thread nD τ) arg13 fullShare (addOut i X1 X12 X9 X4 X5 X8 X13)
        ∗ owns (c : Thread nD τ) arg14 fullShare (updOut i (accOut i X1 X12 X9 X4 X5 X8) X6 X7 X14)
        ∗ owns (c : Thread nD τ) arg15 fullShare (winOut i X1 X12 X2 X3 X15)
        ∗ owns (c : Thread nD τ) arg16 fullShare (cacheOut i X1 X16) -∗ K ⟨⟩))
      ⊢ wp frame (wpE (defs₀ (F := F)) Variants.none c none) Set.univ
          (cc0__fused_body i arg1 harg1 arg2 harg2 arg3 harg3 arg4 harg4 arg5 harg5 arg6 harg6 arg7 harg7 arg8 harg8 arg9 harg9
            arg10 harg10 arg11 harg11 arg12 harg12 arg13 harg13 arg14 harg14 arg15 harg15 arg16 harg16) K := by
  simp only [cc0__fused_body_eq_skeleton]; unfold cc0__fused_body_skel
  simp only [owns_eq_rep]
  iintro ⟨H1, H2, H3, H4, H5, H6, H7, H8, H9, H10, H11, H12, H13, H14, H15, H16, Hk⟩
  sl_exec
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · istop; refine pointsTo_rep_of_read (c : Thread nD τ) arg10 _ fullShare _ ?_
    sl_unfold_run_names
    unfold bankOut updOut accOut accVal winOut accIn c1 c2 c4
    split_ifs <;> simp only [load_S4x2048, load_S4x128x2048, load_S1x1, load_S128x2048, load_S1x128, load_S128x1, load_S4x1x2048, store_S4x2048, store_S4x128x2048,
      store_S128x2048, store_S128x1, store_S4x1x2048, View.read_rep]
    all_goals try simp only [load_window, store_window, View.read_rep]
    all_goals rfl
  isplitl [H11]
  · istop; refine pointsTo_rep_of_read (c : Thread nD τ) arg11 _ fullShare _ ?_
    sl_unfold_run_names
    unfold combOut addOut cacheOut accIn c1 c2 c4
    split_ifs <;> simp only [load_S4x2048, load_S4x128x2048, load_S1x1, load_S128x2048, load_S1x128, load_S128x1, load_S4x1x2048, store_S4x2048, store_S4x128x2048,
      store_S128x2048, store_S128x1, store_S4x1x2048, View.read_rep]
    all_goals try simp only [load_window, store_window, View.read_rep]
    all_goals rfl
  isplitl [H12]
  · istop; refine pointsTo_rep_of_read (c : Thread nD τ) arg12 _ fullShare _ ?_
    sl_unfold_run_names
    unfold accOut accVal accIn c1 c2 c4
    split_ifs <;> simp only [load_S4x2048, load_S4x128x2048, load_S1x1, load_S128x2048, load_S1x128, load_S128x1, load_S4x1x2048, store_S4x2048, store_S4x128x2048,
      store_S128x2048, store_S128x1, store_S4x1x2048, View.read_rep]
    all_goals try simp only [load_window, store_window, View.read_rep]
    all_goals rfl
  isplitl [H13]
  · istop; refine pointsTo_rep_of_read (c : Thread nD τ) arg13 _ fullShare _ ?_
    sl_unfold_run_names
    unfold addOut accIn c1 c2 c4
    split_ifs <;> simp only [load_S4x2048, load_S4x128x2048, load_S1x1, load_S128x2048, load_S1x128, load_S128x1, load_S4x1x2048, store_S4x2048, store_S4x128x2048,
      store_S128x2048, store_S128x1, store_S4x1x2048, View.read_rep]
    all_goals try simp only [load_window, store_window, View.read_rep]
    all_goals rfl
  isplitl [H14]
  · istop; refine pointsTo_rep_of_read (c : Thread nD τ) arg14 _ fullShare _ ?_
    sl_unfold_run_names
    unfold updOut accOut accVal accIn c1 c2 c4
    split_ifs <;> simp only [load_S4x2048, load_S4x128x2048, load_S1x1, load_S128x2048, load_S1x128, load_S128x1, load_S4x1x2048, store_S4x2048, store_S4x128x2048,
      store_S128x2048, store_S128x1, store_S4x1x2048, View.read_rep]
    all_goals try simp only [load_window, store_window, View.read_rep]
    all_goals rfl
  isplitl [H15]
  · istop; refine pointsTo_rep_of_read (c : Thread nD τ) arg15 _ fullShare _ ?_
    sl_unfold_run_names
    unfold winOut accIn c1 c2 c4
    split_ifs <;> simp only [load_S4x2048, load_S4x128x2048, load_S1x1, load_S128x2048, load_S1x128, load_S128x1, load_S4x1x2048, store_S4x2048, store_S4x128x2048,
      store_S128x2048, store_S128x1, store_S4x1x2048, View.read_rep]
    all_goals try simp only [load_window, store_window, View.read_rep]
    all_goals rfl
  · istop; refine pointsTo_rep_of_read (c : Thread nD τ) arg16 _ fullShare _ ?_
    sl_unfold_run_names
    unfold cacheOut
    split_ifs <;> simp only [load_S4x2048, load_S4x128x2048, load_S1x1, load_S128x2048, load_S1x128, load_S128x1, load_S4x1x2048, store_S4x2048, store_S4x128x2048,
      store_S128x2048, store_S128x1, store_S4x1x2048, View.read_rep]
    all_goals try simp only [load_window, store_window, View.read_rep]
    all_goals rfl

end Cert.KernelIdeal.Hand

end
-- ==== Proof.KI.Data.lean ====
module

public import proofs.«01_k».proof.Proof.KI.Values

/-! What the kernel's scratch buffers hold before each grid point, and what each grid point leaves in the two results. -/

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]
variable (m : (ℓ : Loc nD τ sig) → Buf (Elt F) ℓ)

/-! ### The branch conditions and offsets at a grid point -/

/-- The accumulator is cleared at point 0. -/
theorem c1_iff : ∀ t : Fin grid0.N, c1 (grid0.coords t) = 1#1 ↔ t.val = 0 := by decide +kernel
/-- The sum over the sequence runs at the first thirty-two points. -/
theorem c2_iff : ∀ t : Fin grid0.N, c2 (grid0.coords t) = 1#1 ↔ t.val < 32 := by decide +kernel
/-- The cache is filled at the first twenty points. -/
theorem c3_iff : ∀ t : Fin grid0.N, k0_cond3 (grid0.coords t) = 1#1 ↔ t.val < 20 := by decide +kernel
/-- The softmaxes and the selection run at point 31. -/
theorem c4_iff : ∀ t : Fin grid0.N, c4 (grid0.coords t) = 1#1 ↔ t.val = 31 := by decide +kernel
/-- The first result comes from the hidden states at point 32 and from point 53 on. -/
theorem c5_iff : ∀ t : Fin grid0.N, k0_cond5 (grid0.coords t) = 1#1 ↔ (t.val = 32 ∨ 53 ≤ t.val) := by decide +kernel
/-- The first result comes from the cache at points 33 to 52. -/
theorem c6_iff : ∀ t : Fin grid0.N, k0_cond6 (grid0.coords t) = 1#1 ↔ (33 ≤ t.val ∧ t.val ≤ 52) := by decide +kernel
/-- The update columns are computed at points 32 to 47. -/
theorem c7_iff : ∀ t : Fin grid0.N, k0_cond7 (grid0.coords t) = 1#1 ↔ (32 ≤ t.val ∧ t.val < 48) := by decide +kernel
/-- The new bank is written at point 47. -/
theorem c8_iff : ∀ t : Fin grid0.N, k0_cond8 (grid0.coords t) = 1#1 ↔ t.val = 47 := by decide +kernel
/-- Where a point writes the cache. -/
theorem off1_at : ∀ t : Fin grid0.N, k0_off1 (grid0.coords t) = ![0, 128 * t.val, 0] := by decide +kernel
/-- Where a point reads the cache. -/
theorem off2_at : ∀ t : Fin grid0.N, 33 ≤ t.val ∧ t.val ≤ 52 → k0_off2 (grid0.coords t) = ![0, 128 * (t.val - 33), 0] := by decide +kernel
/-- Where a point reads the update bias. -/
theorem off3_at : ∀ t : Fin grid0.N, 32 ≤ t.val ∧ t.val < 48 → k0_off3 (grid0.coords t) = ![0, 128 * (t.val - 32)] := by decide +kernel
/-- Where a point writes the update columns. -/
theorem off4_at : ∀ t : Fin grid0.N, 32 ≤ t.val ∧ t.val < 48 → k0_off4 (grid0.coords t) = ![0, 128 * (t.val - 32)] := by decide +kernel

/-! ### The blocks a grid point reads -/

/-- The block of hidden states at a grid point. -/
abbrev hidB (c : Dev nD) (t : Fin grid0.N) : Vec F S4x128x2048 .f32 := iblk m c 0 t
/-- The allocation weights. -/
abbrev waB (c : Dev nD) (t : Fin grid0.N) : Vec F S128x2048 .f32 := iblk m c 1 t
/-- The allocation bias. -/
abbrev baB (c : Dev nD) (t : Fin grid0.N) : Vec F S128x1 .f32 := iblk m c 2 t
/-- The retrieval weights. -/
abbrev wrB (c : Dev nD) (t : Fin grid0.N) : Vec F S128x2048 .f32 := iblk m c 3 t
/-- The retrieval bias. -/
abbrev brB (c : Dev nD) (t : Fin grid0.N) : Vec F S1x128 .f32 := iblk m c 4 t
/-- The block of the update weights at a grid point. -/
abbrev wuB (c : Dev nD) (t : Fin grid0.N) : Vec F S128x2048 .f32 := iblk m c 5 t
/-- The update bias. -/
abbrev buB (c : Dev nD) (t : Fin grid0.N) : Vec F S1x2048 .f32 := iblk m c 6 t
/-- The memory bank. -/
abbrev bankB (c : Dev nD) (t : Fin grid0.N) : Vec F S128x2048 .f32 := iblk m c 7 t
/-- The layer's scale. -/
abbrev scaleB (c : Dev nD) (t : Fin grid0.N) : Vec F S1x1 .f32 := iblk m c 8 t

/-- Grid point `n`, or the last one. -/
def pt (n : ℕ) : Fin grid0.N := ⟨min n 63, lt_of_le_of_lt (Nat.min_le_right n 63) (by decide)⟩

/-- The number of a grid point. -/
theorem pt_val (n : ℕ) (h : n ≤ 63) : (pt n).val = n := by show min n 63 = n; omega
/-- A grid point is the one of its number. -/
theorem pt_self (t : Fin grid0.N) : pt t.val = t := Fin.ext (by
  have : t.val < 64 := t.isLt
  rw [pt_val _ (by omega)])

/-! ### The scratch contents -/

/-- The accumulator before grid point `n` of the first phase: the sum of the first `n` blocks' rows. -/
def accAt (c : Dev nD) : ℕ → Vec F S4x2048 .f32
  | 0 => k0_pay1
  | n + 1 => k0_pay2 (accAt c n) (hidB m c (pt n))

/-- The accumulator from the second phase on: the pooled mean plus the retrieved memory. -/
def accFin (c : Dev nD) : Vec F S4x2048 .f32 :=
  accVal (accAt m c 32) (scaleB m c (pt 31)) (wrB m c (pt 31)) (brB m c (pt 31)) (bankB m c (pt 31))

/-- The scaled retrieved memory. -/
def addFin (c : Dev nD) : Vec F S4x1x2048 .f32 :=
  k0_pay10 (accAt m c 32) (scaleB m c (pt 31)) (wrB m c (pt 31)) (brB m c (pt 31)) (bankB m c (pt 31))

/-- The winning batch of every row. -/
def winFin (c : Dev nD) : Vec F S128x1 .i32 := winVal (accAt m c 32) (waB m c (pt 31)) (baB m c (pt 31))

/-- The update columns grid point `t` of the second phase computes. -/
def updCol (c : Dev nD) (t : Fin grid0.N) : Vec F S4x128 .f32 :=
  if h : k0_cond7 (grid0.coords t) = 1#1 then
    k0_pay6 (accFin m c) (wuB m c t) (VecWindow.window (buB m c t) (k0_off3 (grid0.coords t)) S1x128.size (k0_off3_inb _ h))
  else fun _ => Scalar.ofBits .f32 0#32

/-- An index of the updates within its column block. -/
def updLoc (y : S4x2048.Idx) : S4x128.Idx := fun
  | 0 => ⟨(y 0).val, (y 0).isLt⟩
  | 1 => ⟨(y 1).val % 128, Nat.mod_lt _ (by decide)⟩

/-- All the updates. -/
def updFin (c : Dev nD) : Vec F S4x2048 .f32 := fun y => updCol m c (pt (32 + (y 1).val / 128)) (updLoc y)

/-- An index of the cache within its row block. -/
def cacheLoc (y : S4x2560x2048.Idx) : S4x128x2048.Idx := fun
  | 0 => ⟨(y 0).val, (y 0).isLt⟩
  | 1 => ⟨(y 1).val % 128, Nat.mod_lt _ (by decide)⟩
  | 2 => ⟨(y 2).val, (y 2).isLt⟩

/-- The full cache: the first twenty blocks of hidden states. -/
def cacheFin (c : Dev nD) : Vec F S4x2560x2048 .bf16 := fun y => k0_pay3 (hidB m c (pt ((y 1).val / 128))) (cacheLoc y)

/-- The new bank. -/
def bankFin (c : Dev nD) : Vec F S128x2048 .f32 := k0_pay7 (updFin m c) (winFin m c) (bankB m c (pt 47))

/-- The combined block grid point `t` of the second phase leaves. -/
def combFin (c : Dev nD) (t : Fin grid0.N) : Vec F S4x128x2048 .f32 :=
  if 33 ≤ t.val ∧ t.val ≤ 52 then k0_pay5 (k0_pay3 (hidB m c (pt (t.val - 33)))) (addFin m c) else k0_pay4 (hidB m c t) (addFin m c)

/-- What the five scratch buffers hold before grid point `n`. -/
structure Inv (c : Dev nD) (n : ℕ) (a : Vec F S4x2048 .f32) (v : Vec F S4x1x2048 .f32) (u : Vec F S4x2048 .f32) (w : Vec F S128x1 .i32)
    (ca : Vec F S4x2560x2048 .bf16) : Prop where
  acc : 1 ≤ n → n ≤ 31 → a = accAt m c n
  accf : 32 ≤ n → a = accFin m c
  add : 32 ≤ n → v = addFin m c
  win : 32 ≤ n → w = winFin m c
  upd : ∀ y : S4x2048.Idx, 32 ≤ n → (y 1).val < 128 * (n - 32) → u y = updFin m c y
  cache : ∀ y : S4x2560x2048.Idx, (y 1).val < 128 * n → ca y = cacheFin m c y

section Step

variable {m} {c : Dev nD} {t : Fin grid0.N} {a : Vec F S4x2048 .f32} {v : Vec F S4x1x2048 .f32} {u : Vec F S4x2048 .f32} {w : Vec F S128x1 .i32}
    {ca : Vec F S4x2560x2048 .bf16}

/-- In the first phase the accumulator gains the point's block. -/
theorem accIn_of_lt (h : Inv m c t.val a v u w ca) (ht : t.val < 32) : accIn (grid0.coords t) (hidB m c t) a = accAt m c (t.val + 1) := by
  unfold accIn
  rw [if_pos ((c2_iff t).mpr ht), accAt, pt_self]
  congr 1
  by_cases h0 : t.val = 0
  · rw [if_pos ((c1_iff t).mpr h0), h0, accAt]
  · rw [if_neg (fun e => h0 ((c1_iff t).mp e)), h.acc (by omega) (by omega)]

/-- In the second phase it is kept. -/
theorem accIn_of_ge (ht : 32 ≤ t.val) : accIn (grid0.coords t) (hidB m c t) a = a := by
  unfold accIn
  rw [if_neg (fun e => by have := (c2_iff t).mp e; omega), if_neg (fun e => by have := (c1_iff t).mp e; omega)]

/-- From point 31 on the accumulator left is the mean plus the scaled retrieved memory. -/
theorem accOut_of_ge (h : Inv m c t.val a v u w ca) (ht : 31 ≤ t.val) :
    accOut (grid0.coords t) (hidB m c t) a (scaleB m c t) (wrB m c t) (brB m c t) (bankB m c t) = accFin m c := by
  unfold accOut
  by_cases h31 : t.val = 31
  · rw [if_pos ((c4_iff t).mpr h31), accIn_of_lt h (by omega), h31, accFin, show pt 31 = t from h31 ▸ pt_self t]
  · rw [if_neg (fun e => h31 ((c4_iff t).mp e)), accIn_of_ge (by omega), h.accf (by omega)]

/-- From point 31 on the addition left is the scaled retrieved memory. -/
theorem addOut_of_ge (h : Inv m c t.val a v u w ca) (ht : 31 ≤ t.val) :
    addOut (grid0.coords t) (hidB m c t) a (scaleB m c t) (wrB m c t) (brB m c t) (bankB m c t) v = addFin m c := by
  unfold addOut
  by_cases h31 : t.val = 31
  · rw [if_pos ((c4_iff t).mpr h31), accIn_of_lt h (by omega), h31, addFin, show pt 31 = t from h31 ▸ pt_self t]
  · rw [if_neg (fun e => h31 ((c4_iff t).mp e)), h.add (by omega)]

/-- From point 31 on the winners left are those of the selection. -/
theorem winOut_of_ge (h : Inv m c t.val a v u w ca) (ht : 31 ≤ t.val) :
    winOut (grid0.coords t) (hidB m c t) a (waB m c t) (baB m c t) w = winFin m c := by
  unfold winOut
  by_cases h31 : t.val = 31
  · rw [if_pos ((c4_iff t).mpr h31), accIn_of_lt h (by omega), h31, winFin, show pt 31 = t from h31 ▸ pt_self t]
  · rw [if_neg (fun e => h31 ((c4_iff t).mp e)), h.win (by omega)]

/-- The cache after a point, at the positions it then holds. -/
theorem cacheOut_step (h : Inv m c t.val a v u w ca) (y : S4x2560x2048.Idx) (hy : (y 1).val < 128 * (t.val + 1)) :
    cacheOut (grid0.coords t) (hidB m c t) ca y = cacheFin m c y := by
  have hy1 : (y 1).val < 2560 := (y 1).isLt
  unfold cacheOut
  by_cases h3 : t.val < 20
  · rw [if_pos ((c3_iff t).mpr h3), off1_at]
    unfold VecWindow.put
    split
    · next hb =>
      have hb1 := hb 1
      change 128 * t.val ≤ (y 1).val ∧ (y 1).val < 128 * t.val + 128 at hb1
      have e : (y 1).val / 128 = t.val := by omega
      unfold cacheFin
      rw [e, pt_self]
      refine congrArg _ (funext fun k => Fin.ext ?_)
      match k with
      | 0 => rfl
      | 1 => show (y 1).val - 128 * t.val = (y 1).val % 128; omega
      | 2 => rfl
    · next hb =>
      refine h.cache y (by_contra fun hlt => hb fun k => ?_)
      match k with
      | 0 => exact ⟨Nat.zero_le _, by have := (y 0).isLt; change (y 0).val < 4 at this; show (y 0).val < 0 + 4; omega⟩
      | 1 => exact ⟨by show 128 * t.val ≤ (y 1).val; omega, by show (y 1).val < 128 * t.val + 128; omega⟩
      | 2 => exact ⟨Nat.zero_le _, by have := (y 2).isLt; change (y 2).val < 2048 at this; show (y 2).val < 0 + 2048; omega⟩
  · rw [if_neg (fun e => h3 ((c3_iff t).mp e))]
    exact h.cache y (by omega)

/-- The updates after a point, at the columns they then hold. -/
theorem updOut_step (h : Inv m c t.val a v u w ca) (ht : 32 ≤ t.val) (y : S4x2048.Idx) (hy : (y 1).val < 128 * (t.val + 1 - 32)) :
    updOut (grid0.coords t) (accFin m c) (wuB m c t) (buB m c t) u y = updFin m c y := by
  have hy1 : (y 1).val < 2048 := (y 1).isLt
  unfold updOut
  by_cases h7 : t.val < 48
  · have h7' := (c7_iff t).mpr ⟨ht, h7⟩
    rw [dif_pos h7']
    have e0 : k0_pay6 (accFin m c) (wuB m c t) (VecWindow.window (buB m c t) (k0_off3 (grid0.coords t)) S1x128.size (k0_off3_inb _ h7')) = updCol m c t := by
      unfold updCol; rw [dif_pos h7']
    rw [e0, off4_at t ⟨ht, h7⟩]
    unfold VecWindow.put
    split
    · next hb =>
      have hb1 := hb 1
      change 128 * (t.val - 32) ≤ (y 1).val ∧ (y 1).val < 128 * (t.val - 32) + 128 at hb1
      have e : 32 + (y 1).val / 128 = t.val := by omega
      unfold updFin
      rw [e, pt_self]
      refine congrArg _ (funext fun k => Fin.ext ?_)
      match k with
      | 0 => rfl
      | 1 => show (y 1).val - 128 * (t.val - 32) = (y 1).val % 128; omega
    · next hb =>
      refine h.upd y ht (by_contra fun hlt => hb fun k => ?_)
      match k with
      | 0 => exact ⟨Nat.zero_le _, by have := (y 0).isLt; change (y 0).val < 4 at this; show (y 0).val < 0 + 4; omega⟩
      | 1 => exact ⟨by show 128 * (t.val - 32) ≤ (y 1).val; omega, by show (y 1).val < 128 * (t.val - 32) + 128; omega⟩
  · rw [dif_neg (fun e => h7 ((c7_iff t).mp e).2)]
    exact h.upd y ht (by omega)

/-- One grid point takes what the scratch buffers hold before it to what they hold before the next. -/
theorem Inv.step (h : Inv m c t.val a v u w ca) :
    Inv m c (t.val + 1)
      (accOut (grid0.coords t) (hidB m c t) a (scaleB m c t) (wrB m c t) (brB m c t) (bankB m c t))
      (addOut (grid0.coords t) (hidB m c t) a (scaleB m c t) (wrB m c t) (brB m c t) (bankB m c t) v)
      (updOut (grid0.coords t) (accOut (grid0.coords t) (hidB m c t) a (scaleB m c t) (wrB m c t) (brB m c t) (bankB m c t)) (wuB m c t) (buB m c t) u)
      (winOut (grid0.coords t) (hidB m c t) a (waB m c t) (baB m c t) w)
      (cacheOut (grid0.coords t) (hidB m c t) ca) where
  acc _ h1 := by
    unfold accOut
    rw [if_neg (fun e => by have := (c4_iff t).mp e; omega), accIn_of_lt h (by omega)]
  accf h1 := accOut_of_ge h (by omega)
  add h1 := addOut_of_ge h (by omega)
  win h1 := winOut_of_ge h (by omega)
  upd y h1 hy := by
    rw [accOut_of_ge h (by omega)]
    exact updOut_step h (by omega) y hy
  cache y hy := cacheOut_step h y hy

/-- In the second phase a grid point leaves its combined block. -/
theorem combOut_eq (h : Inv m c t.val a v u w ca) (ht : 32 ≤ t.val) (x11 : Vec F S4x128x2048 .f32) :
    combOut (grid0.coords t) (hidB m c t)
        (addOut (grid0.coords t) (hidB m c t) a (scaleB m c t) (wrB m c t) (brB m c t) (bankB m c t) v)
        (cacheOut (grid0.coords t) (hidB m c t) ca) x11 = combFin m c t := by
  rw [addOut_of_ge h (by omega)]
  unfold combOut combFin
  by_cases h6 : 33 ≤ t.val ∧ t.val ≤ 52
  · rw [dif_pos ((c6_iff t).mpr h6), if_pos h6]
    congr 1
    funext y
    have hy1 : (y 1).val < 128 := (y 1).isLt
    have o0 : k0_off2 (grid0.coords t) 0 = 0 := congrFun (off2_at t h6) 0
    have o1 : k0_off2 (grid0.coords t) 1 = 128 * (t.val - 33) := congrFun (off2_at t h6) 1
    have o2 : k0_off2 (grid0.coords t) 2 = 0 := congrFun (off2_at t h6) 2
    refine (cacheOut_step h _ ?_).trans ?_
    · show k0_off2 (grid0.coords t) 1 + 1 * (y 1).val < _
      omega
    · unfold cacheFin
      have e1 : ((Rect.unit (s := S4x2560x2048) (k0_off2 (grid0.coords t)) S4x128x2048.size (k0_off2_inb _ ((c6_iff t).mpr h6))).emb y 1).val = 128 * (t.val - 33) + (y 1).val := by
        show k0_off2 (grid0.coords t) 1 + 1 * (y 1).val = _
        omega
      rw [e1, show (128 * (t.val - 33) + (y 1).val) / 128 = t.val - 33 by omega]
      refine congrArg _ (funext fun k => Fin.ext ?_)
      match k with
      | 0 => show k0_off2 (grid0.coords t) 0 + 1 * (y 0).val = (y 0).val; omega
      | 1 => show (_ : ℕ) % 128 = (y 1).val; rw [e1]; omega
      | 2 => show k0_off2 (grid0.coords t) 2 + 1 * (y 2).val = (y 2).val; omega
  · rw [dif_neg (fun e => h6 ((c6_iff t).mp e)), if_neg h6, if_pos ((c5_iff t).mpr (by omega))]

/-- The last grid point of the updates leaves the new bank. -/
theorem bankOut_eq (h : Inv m c t.val a v u w ca) (ht : t.val = 47) (x10 : Vec F S128x2048 .f32) :
    bankOut (grid0.coords t)
      (updOut (grid0.coords t) (accOut (grid0.coords t) (hidB m c t) a (scaleB m c t) (wrB m c t) (brB m c t) (bankB m c t)) (wuB m c t) (buB m c t) u)
      (winOut (grid0.coords t) (hidB m c t) a (waB m c t) (baB m c t) w) (bankB m c t) x10 = bankFin m c := by
  unfold bankOut
  rw [if_pos ((c8_iff t).mpr ht), winOut_of_ge h (by omega), accOut_of_ge h (by omega), bankFin, show pt 47 = t from ht ▸ pt_self t]
  congr 1
  funext y
  have hy1 : (y 1).val < 2048 := (y 1).isLt
  exact updOut_step h (by omega) y (by omega)

end Step

end Cert.KernelIdeal.Hand

end
-- ==== Proof.KI.Body.lean ====
module

public import proofs.«01_k».proof.Proof.KI.Run
public import proofs.«01_k».proof.Proof.KI.Data

/-! The idealized kernel's pipeline: its proof data, its body at a grid point, and its whole run. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch buffers before grid point `n`, at contents the invariant allows. -/
def scratchAt (c : Dev nD) (n : ℕ) : sProp 𝕄 :=
  iprop(∃ a v u w ca, ⌜Inv m c n a v u w ca⌝
    ∗ owns (c : Thread nD τ) (Memref.whole cc0_scratch0) fullShare a ∗ owns (c : Thread nD τ) (Memref.whole cc0_scratch1) fullShare v
    ∗ owns (c : Thread nD τ) (Memref.whole cc0_scratch2) fullShare u ∗ owns (c : Thread nD τ) (Memref.whole cc0_scratch3) fullShare w
    ∗ owns (c : Thread nD τ) (Memref.whole cc0_scratch4) fullShare ca)

/-- The pipeline's proof data: the inputs left as found, the two results at the values of `Data`, the scratch by its invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => bankFin m c
    | ⟨10, _⟩ => combFin m c t
  Φ t := iprop(scratchAt m c t.val ∗ ∃ r, prngReg c r)
  q _ := fullShare
  owed _ := 0

/-- A window's array before the run is the host's value of it. -/
theorem A_eq (c : Dev nD) (w : Fin cfg0.W) : (dats m 0 c).A w = V m c (Pipeline.arrRef spec0 w) := by dsimp only [dats]

/-- The new bank is written at grid point 47 alone. -/
theorem idle9 : ∀ t : Fin cfg0.N, cfg0.idle 9 (cfg0.grid.coords t) = true ↔ t.val ≠ 47 := by decide +kernel
/-- The first result is written from grid point 32 on. -/
theorem idle10 : ∀ t : Fin cfg0.N, cfg0.idle 10 (cfg0.grid.coords t) = true ↔ t.val < 32 := by decide +kernel
/-- The first result's block is written back from grid point 32 on. -/
theorem flush10 : ∀ t : Fin cfg0.N, (cfg0.win 10).flush t = true ↔ 32 ≤ t.val := by decide +kernel
/-- The new bank is written back at the last grid point. -/
theorem flush9 (t : Fin cfg0.N) : (cfg0.win 9).flush t = true ↔ t.val = 63 := by
  have h := flush0_9 t
  have : t.val < 64 := t.isLt
  rw [h]; omega

/-- What the body must give back of window `w` at grid point `t`. -/
def givesBack (c : Dev nD) (w : Fin cfg0.W) (t : Fin cfg0.N) : sProp 𝕄 :=
  match cfg0.idle w (cfg0.grid.coords t) with
  | true =>
    match (cfg0.win w).flush t with
    | false => iprop(∃ d, owns (c : Thread nD τ) ((cfg0.win w).stage (cfg0.slots t w)) fullShare ((dats m 0 c).before w t d))
    | true => owns (c : Thread nD τ) ((cfg0.win w).stage (cfg0.slots t w)) fullShare ((dats m 0 c).after w t)
  | false => owns (c : Thread nD τ) ((cfg0.win w).stage (cfg0.slots t w)) fullShare ((dats m 0 c).after w t)

/-- Window `w` is found at some contents its history allows. -/
def found (c : Dev nD) (w : Fin cfg0.W) (t : Fin cfg0.N) : sProp 𝕄 :=
  iprop(∃ d, owns (c : Thread nD τ) ((cfg0.win w).stage (cfg0.slots t w)) fullShare ((dats m 0 c).before w t d))

/-- What the body is called with at a grid point. -/
def bodyPre (c : Dev nD) (t : Fin cfg0.N) : sProp 𝕄 :=
  iprop((dats m 0 c).Φ t.castSucc ∗ (dats m 0 c).owesAt () t.castSucc
    ∗ found m c 0 t ∗ found m c 1 t ∗ found m c 2 t ∗ found m c 3 t ∗ found m c 4 t ∗ found m c 5 t ∗ found m c 6 t ∗ found m c 7 t
    ∗ found m c 8 t ∗ found m c 9 t ∗ found m c 10 t)
/-- What the body gives back at a grid point. -/
def bodyPost (c : Dev nD) (t : Fin cfg0.N) : sProp 𝕄 :=
  iprop((dats m 0 c).Φ t.succ ∗ (dats m 0 c).owesAt () t.succ
    ∗ givesBack m c 0 t ∗ givesBack m c 1 t ∗ givesBack m c 2 t ∗ givesBack m c 3 t ∗ givesBack m c 4 t ∗ givesBack m c 5 t
    ∗ givesBack m c 6 t ∗ givesBack m c 7 t ∗ givesBack m c 8 t ∗ givesBack m c 9 t ∗ givesBack m c 10 t)

/-- After grid point 47 the new bank stays in its staging buffer. -/
theorem before9 (c : Dev nD) : ∀ (n : ℕ) (t : Fin cfg0.N) (_ : t.val = 48 + n) (d), (dats m 0 c).before 9 t d = bankFin m c
  | n, t, ht, d => by
    have hN : t.val < 64 := t.isLt
    have hfetch : (cfg0.win 9).fetch t = false := rfl
    have hfl : (cfg0.win 9).flush ⟨t.val - 1, Nat.lt_of_le_of_lt (Nat.sub_le _ _) t.isLt⟩ = false :=
      Bool.eq_false_iff.mpr fun e => by have := (flush9 _).mp e; change t.val - 1 = 63 at this; omega
    rw [(dats m 0 c).before_of_pos 9 t (by omega) hfetch, hfl, if_neg Bool.false_ne_true]
    unfold Dat.left
    match n, ht with
    | 0, ht =>
      have e : cfg0.idle 9 (cfg0.grid.coords ⟨t.val - 1, Nat.lt_of_le_of_lt (Nat.sub_le _ _) t.isLt⟩) = false :=
        Bool.eq_false_iff.mpr fun e => (idle9 _).mp e (by show t.val - 1 = 47; omega)
      rw [e]; rfl
    | n + 1, ht =>
      have e : cfg0.idle 9 (cfg0.grid.coords ⟨t.val - 1, Nat.lt_of_le_of_lt (Nat.sub_le _ _) t.isLt⟩) = true :=
        (idle9 _).mpr (by show t.val - 1 ≠ 47; omega)
      rw [e]
      exact before9 c n ⟨t.val - 1, Nat.lt_of_le_of_lt (Nat.sub_le _ _) t.isLt⟩ (by show t.val - 1 = 48 + n; omega) d

/-- The new bank's staging buffer as the body gives it back. -/
theorem back9 (c : Dev nD) (t : Fin cfg0.N) (d) (X : Vec F S128x2048 .f32) (h47 : t.val = 47 → X = bankFin m c)
    (hne : t.val ≠ 47 → X = (dats m 0 c).before 9 t d) :
    owns (c : Thread nD τ) ((cfg0.win 9).stage (cfg0.slots t 9)) fullShare X ⊢ givesBack m c 9 t := by
  unfold givesBack
  by_cases h : t.val = 47
  · rw [show cfg0.idle 9 (cfg0.grid.coords t) = false from Bool.eq_false_iff.mpr fun e => (idle9 t).mp e h, h47 h]
    exact .rfl
  · rw [show cfg0.idle 9 (cfg0.grid.coords t) = true from (idle9 t).mpr h, hne h]
    by_cases h63 : t.val = 63
    · rw [show (cfg0.win 9).flush t = true from (flush9 t).mpr h63, before9 m c 15 t h63 d]
      exact .rfl
    · rw [show (cfg0.win 9).flush t = false from Bool.eq_false_iff.mpr fun e => h63 ((flush9 t).mp e)]
      iintro H; iexists d; iexact H

/-- The combined result's staging buffer as the body gives it back. -/
theorem back10 (c : Dev nD) (t : Fin cfg0.N) (d) (X : Vec F S4x128x2048 .f32) (hge : 32 ≤ t.val → X = combFin m c t)
    (hlt : t.val < 32 → X = (dats m 0 c).before 10 t d) :
    owns (c : Thread nD τ) ((cfg0.win 10).stage (cfg0.slots t 10)) fullShare X ⊢ givesBack m c 10 t := by
  unfold givesBack
  by_cases h : t.val < 32
  · rw [show cfg0.idle 10 (cfg0.grid.coords t) = true from (idle10 t).mpr h, hlt h,
      show (cfg0.win 10).flush t = false from Bool.eq_false_iff.mpr fun e => by have := (flush10 t).mp e; omega]
    iintro H; iexists d; iexact H
  · rw [show cfg0.idle 10 (cfg0.grid.coords t) = false from Bool.eq_false_iff.mpr fun e => h ((idle10 t).mp e), hge (by omega)]
    exact .rfl

set_option maxHeartbeats 2000000 in
/-- The body at a grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.castSucc = iprop(scratchAt m c t.val ∗ ∃ r, prngReg c r) from rfl,
    show (dats m 0 c).Φ t.succ = iprop(scratchAt m c (t.val + 1) ∗ ∃ r, prngReg c r) from rfl]
  unfold Dat.owesAt Pipeline.owesWithin
  rw [show (dats m 0 c).owed t.castSucc = 0 from rfl, show (dats m 0 c).owed t.succ = 0 from rfl]
  unfold found scratchAt
  simp only [before0_0_of m (dats m 0 c) rfl (fun _ => rfl), before0_1_of m (dats m 0 c) rfl (fun _ => rfl), before0_2_of m (dats m 0 c) rfl (fun _ => rfl),
    before0_3_of m (dats m 0 c) rfl (fun _ => rfl), before0_4_of m (dats m 0 c) rfl (fun _ => rfl), before0_5_of m (dats m 0 c) rfl (fun _ => rfl),
    before0_6_of m (dats m 0 c) rfl (fun _ => rfl), before0_7_of m (dats m 0 c) rfl (fun _ => rfl), before0_8_of m (dats m 0 c) rfl (fun _ => rfl)]
  iintro ⟨⟨⟨%a, %v, %u, %w, %ca, %hI, S0, S1, S2, S3, S4⟩, Hg⟩, ⟨%W, %hW, HO⟩, ⟨%_, H0⟩, ⟨%_, H1⟩, ⟨%_, H2⟩, ⟨%_, H3⟩, ⟨%_, H4⟩, ⟨%_, H5⟩, ⟨%_, H6⟩, ⟨%_, H7⟩, ⟨%_, H8⟩, ⟨%d9, H9⟩, ⟨%d10, H10⟩⟩
  iapply (kernelRun c (grid0.coords t) _ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t)
    ((dats m 0 c).before 9 t d9) ((dats m 0 c).before 10 t d10) a v u w ca _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  isplitl [S2]; · iexact S2
  isplitl [S3]; · iexact S3
  isplitl [S4]; · iexact S4
  iintro ⟨H0, H1, H2, H3, H4, H5, H6, H7, H8, H9, H10, S0, S1, S2, S3, S4⟩
  isplitl [S0 S1 S2 S3 S4 Hg]
  · isplitl [S0 S1 S2 S3 S4]
    · iexists _, _, _, _, _
      isplitr; · ipureintro; exact hI.step
      isplitl [S0]; · iexact S0
      isplitl [S1]; · iexact S1
      isplitl [S2]; · iexact S2
      isplitl [S3]; · iexact S3
      iexact S4
    iexact Hg
  isplitl [HO]
  · iexists W; isplitr; · ipureintro; exact fun _ _ => Or.inl trivial
    iexact HO
  isplitl [H0]; · istop; exact .rfl
  isplitl [H1]; · istop; exact .rfl
  isplitl [H2]; · istop; exact .rfl
  isplitl [H3]; · istop; exact .rfl
  isplitl [H4]; · istop; exact .rfl
  isplitl [H5]; · istop; exact .rfl
  isplitl [H6]; · istop; exact .rfl
  isplitl [H7]; · istop; exact .rfl
  isplitl [H8]; · istop; exact .rfl
  isplitl [H9]
  · istop
    refine back9 m c t d9 _ (fun h => bankOut_eq hI h _) (fun h => ?_)
    unfold bankOut; rw [if_neg fun e => h ((c8_iff t).mp e)]
  istop
  refine back10 m c t d10 _ (fun h => combOut_eq hI h _) (fun h => ?_)
  unfold combOut
  rw [dif_neg fun e => by have := (c6_iff t).mp e; omega, if_neg fun e => by have := (c5_iff t).mp e; omega]

/-- The body table's row at the point is the body there. -/
theorem defs₀_row (t : Fin cfg0.N) : defs₀ (F := F) .tc cfg0.body (cfg0.bodyArgs t (cfg0.slots t)) = bodyAt0 t := by
  unfold defs₀; rw [Defs.onTc_tc]

/-- The library's body obligation. -/
theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- From any memory with zero counters, every execution of the program ends, the windows' arrays at what the proof data say, every other buffer as the
    region found it, and every semaphore counter at zero. -/
theorem run_main :
    θ_run defs (onTc (τ := τ) (main (F := F))) (s₀ m ρ)
      (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by
      rw [show (dats m 0 c).Φ 0 = iprop(scratchAt m c 0 ∗ ∃ r, prngReg c r) from rfl]
      unfold Pipeline.ΦA scratchAt
      rw [scopedRest0_eq]
      iintro ⟨⟨⟨%a, Ha⟩, ⟨%v, Hv⟩, ⟨%u, Hu⟩, ⟨%w, Hw⟩, ⟨%ca, Hc⟩⟩, Hg⟩
      isplitl [Ha Hv Hu Hw Hc]
      · iexists a, v, u, w, ca
        simp only [owns_whole]
        isplitr
        · ipureintro
          exact ⟨fun h => absurd h (by omega), fun h => absurd h (by omega), fun h => absurd h (by omega), fun h => absurd h (by omega),
            fun _ h => absurd h (by omega), fun _ h => absurd h (by omega)⟩
        isplitl [Ha]; · iexact Ha
        isplitl [Hv]; · iexact Hv
        isplitl [Hu]; · iexact Hu
        isplitl [Hw]; · iexact Hw
        iexact Hc
      iexact Hg)
    (hout := fun c => by
      rw [show (dats m 0 c).Φ (Fin.last cfg0.N) = iprop(scratchAt m c cfg0.N ∗ ∃ r, prngReg c r) from rfl]
      unfold Pipeline.ΦA scratchAt
      rw [scopedRest0_eq]
      simp only [owns_whole]
      iintro ⟨⟨%a, %v, %u, %w, %ca, %_, Ha, Hv, Hu, Hw, Hc⟩, Hg⟩
      isplitl [Ha Hv Hu Hw Hc]
      · isplitl [Ha]; · iexists a; iexact Ha
        isplitl [Hv]; · iexists v; iexact Hv
        isplitl [Hu]; · iexists u; iexact Hu
        isplitl [Hw]; · iexists w; iexact Hw
        iexists ca; iexact Hc
      iexact Hg)

end Cert.KernelIdeal.Hand

end
-- ==== Proof.KI.Frame.lean ====
module

public import proofs.«01_k».proof.Proof.KI.Body

/-! The fused program's frame: its arguments end as they began, and every semaphore counter ends at zero. -/

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.Sem

variable {F : FTy → Type} [FloatOps F]

variable (m : (ℓ : Loc nD τ sig) → Buf (Elt F) ℓ) (ρ : Dev nD → PrngReg)

/-- Device `c`'s arguments hold at `r` what they held at the start. -/
def ArgsKept (c : Dev nD) (r : PUnit × MemSt nD τ sig (Elt F)) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)
  ∧ r.2.mem ((c.tc : Thread nD τ).loc main_arg7) = m ((c.tc : Thread nD τ).loc main_arg7)
  ∧ r.2.mem ((c.tc : Thread nD τ).loc main_arg8) = m ((c.tc : Thread nD τ).loc main_arg8)
  ∧ r.2.mem ((c.tc : Thread nD τ).loc main_arg9) = m ((c.tc : Thread nD τ).loc main_arg9)

/-- The pipeline's final state keeps the arguments. -/
theorem argsKept_of_framePost (r : PUnit × MemSt nD τ sig (Elt F)) (h : Pipeline.FramePost cfgs (dats m) 0 (V m) r) (c : Dev nD) :
    ArgsKept m c r := by
  have win : ∀ w, (cfg0.win w).isOut = false → r.2.mem ((c.tc : Thread nD τ).loc (Pipeline.arrRef spec0 w)) = V m c (Pipeline.arrRef spec0 w) :=
    fun w hw => ((h c).1 w).trans (((dats m 0 c).arrAt_in w hw _).trans (A_eq m c w))
  refine ⟨(win 0 rfl).trans (V_main_arg0 m c), ?_, (win 7 rfl).trans (V_main_arg2 m c), (win 1 rfl).trans (V_main_arg3 m c), ?_,
    (win 3 rfl).trans (V_main_arg5 m c), ?_, (win 5 rfl).trans (V_main_arg7 m c), ?_, ?_⟩
  · exact ((h c).2 main_arg1 (Pipeline.mem_restRefs_of main_arg1 (by decide) (by decide))).trans (V_main_arg1 m c)
  · exact ((h c).2 main_arg4 (Pipeline.mem_restRefs_of main_arg4 (by decide) (by decide))).trans (V_main_arg4 m c)
  · exact ((h c).2 main_arg6 (Pipeline.mem_restRefs_of main_arg6 (by decide) (by decide))).trans (V_main_arg6 m c)
  · exact ((h c).2 main_arg8 (Pipeline.mem_restRefs_of main_arg8 (by decide) (by decide))).trans (V_main_arg8 m c)
  · exact ((h c).2 main_arg9 (Pipeline.mem_restRefs_of main_arg9 (by decide) (by decide))).trans (V_main_arg9 m c)

/-- Every execution ends with the arguments unchanged and every semaphore counter at zero. -/
theorem frame_kept :
    θ_run defs (onTc (τ := τ) (main (F := F))) ⟨m, fun _ => 0, ρ⟩ (fun r => (∀ c : Dev nD, ArgsKept m c r) ∧ r.2.sem = fun _ => 0) :=
  (θ_run _ _ _).mono (fun r h => ⟨argsKept_of_framePost m r h.1, h.2⟩) (run_main m ρ)

end Cert.KernelIdeal.Hand

end
-- ==== Proof.KernelFrame.lean ====
module

public import proofs.«01_k».proof.Defs
public import proofs.«01_k».proof.Proof.Gen.Kernel
public import proofs.«01_k».proof.Proof.KI.Frame

/-! The fused program read at the hardware's floats: the frame of its text at every float instance, taken there. -/

@[expose] public section

set_option maxRecDepth 65536

noncomputable section

namespace Cert.Proof

open Idealize.ShloMosaic Idealize.SL.Sem

/-- Every kernel call of the printed program runs the body the idealized program runs, read at the hardware's floats. -/
theorem bodies_agree : Cert.Kernel.defs₀ (F := Bits) = Cert.KernelIdeal.defs₀ (F := Bits) := by
  unfold Cert.Kernel.defs₀ Cert.KernelIdeal.defs₀
  refine congrArg Defs.onTc ?_
  funext l x
  match l, x with
  | 0, (t, s) => exact rfl

/-- So the two programs' call tables agree. -/
theorem tables_agree : Cert.Kernel.defs (F := Bits) = Cert.KernelIdeal.defs (F := Bits) :=
  congrArg (Pipeline.defs Cert.KernelIdeal.pcfgs) bodies_agree

/-- The program as printed runs, keeps its arguments and ends with every semaphore counter at zero. -/
theorem kernel_frame : @Cert.quiescent_Kernel Cert.Kernel.Gen.facts := by
  intro m g _
  rw [tables_agree]
  exact Cert.KernelIdeal.Hand.frame_kept (F := Bits) m g

end Cert.Proof

end
-- ==== Proof.Ref.Stages.lean ====
module

public import proofs.«01_k».proof.Proof.Gen.ReferenceIdeal
public import Idealize.ShloMosaic.Lib.StableHlo.Run
public import Idealize.ShloMosaic.Lib.Pipeline.Frame
public import Idealize.ShloMosaic.Lib.Quiescent

/-! The reference's run, in six stages: what each stage leaves in its last buffer, as a function of what it reads. -/

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem Idealize.ShloMosaic.StableHlo

variable {F : FTy → Type} [FloatOps F]

/-- The mean over the sequence. -/
def refMean (x : Vec F S4x4096x2048 .f32) : Vec F S4x2048 .f32 :=
  Host.divf (Host.reduceAdd x (constant S_ .f32 0x00000000#32) reducesTo_S4x4096x2048_S4x2048_d1 h_S_)
    (broadcastInDim S4x2048 ![] bcast_S_S4x2048 (constant S_ .f32 0x45800000#32))

/-- The rows' scores: a product with the weights plus the bias. -/
def refLogits (p : Vec F S4x2048 .f32) (w : Vec F S128x2048 .f32) (b : Vec F S128 .f32) : Vec F S4x128 .f32 :=
  addf (Host.dotGeneral dot_S4x2048_S2048x128_S4x128_1_0_0_1_n_n none p (transpose S2048x128 [1, 0] w transposes_S128x2048_S2048x128_1_0))
    (broadcastInDim S4x128 ![0, 1] bcast_S1x128_S4x128_0_1 (broadcastInDim S1x128 ![1] bcast_S128_S1x128_1 b))

/-- The exponentials of the scores less their row maximum. -/
def refExps (y : Vec F S4x128 .f32) : Vec F S4x128 .f32 :=
  Host.exp (subf y (broadcastInDim S4x128 ![0, 1] bcast_S4x1_S4x128_0_1 (broadcastInDim S4x1 ![0] bcast_S4_S4x1_0
    (maximumf (broadcastInDim S4 ![] bcast_S_S4 (constant S_ .f32 0xFF800000#32))
      (Host.reduce FloatOps.maximumf y (constant S_ .f32 0xFF800000#32) reducesTo_S4x128_S4_d1 h_S_)))))

/-- The softmax of the scores. -/
def refSoft (y : Vec F S4x128 .f32) : Vec F S4x128 .f32 :=
  Host.divf (refExps y) (broadcastInDim S4x128 ![0, 1] bcast_S4x1_S4x128_0_1 (broadcastInDim S4x1 ![0] bcast_S4_S4x1_0
    (Host.reduceAdd (refExps y) (constant S_ .f32 0x00000000#32) reducesTo_S4x128_S4_d1 h_S_)))

/-- The layer's number, a negative one wrapped round. -/
def refLayer (i : Vec F S_ .i32) : Vec F S_ .i32 := select (cmpi .slt i (constantI S_ 32 0#32)) (addi i (constantI S_ 32 24#32)) i

/-- The layer's scale. -/
def refScale (i : Vec F S_ .i32) (s : Vec F S24 .f32) : Vec F S_ .f32 :=
  shapeCast S_ (Host.dynamicSlice S1 s
    (fun _ : Fin 1 => (i (Shape.Idx.first h_S_)).toInt)
    sliceFits_S24_S1) shapeCasts_S1_S_

/-- The retrieved memory. -/
def refRetr (w : Vec F S4x128 .f32) (b : Vec F S128x2048 .f32) : Vec F S4x2048 .f32 := Host.dotGeneral dot_S4x128_S128x2048_S4x2048_1_0_0_1_n_n none w b

/-- The retrieved memory at every position of the sequence. -/
def refSpread (y : Vec F S4x2048 .f32) : Vec F S4x4096x2048 .f32 :=
  broadcastInDim S4x4096x2048 ![0, 1, 2] bcast_S4x1x2048_S4x4096x2048_0_1_2 (broadcastInDim S4x1x2048 ![0, 2] bcast_S4x2048_S4x1x2048_0_2 y)

/-- The hidden states plus the scaled retrieved memory. -/
def refComb (x y : Vec F S4x4096x2048 .f32) (s : Vec F S_ .f32) : Vec F S4x4096x2048 .f32 :=
  addf x (mulf y (broadcastInDim S4x4096x2048 ![] bcast_S_S4x4096x2048 s))

/-- The updates before their sigmoid. -/
def refPre (p : Vec F S4x2048 .f32) (w : Vec F S2048x2048 .f32) (b : Vec F S2048 .f32) : Vec F S4x2048 .f32 :=
  addf (Host.dotGeneral dot_S4x2048_S2048x2048_S4x2048_1_0_0_1_n_n none p (transpose S2048x2048 [1, 0] w transposes_S2048x2048_S2048x2048_1_0))
    (broadcastInDim S4x2048 ![0, 1] bcast_S1x2048_S4x2048_0_1 (broadcastInDim S1x2048 ![1] bcast_S2048_S1x2048_1 b))

/-- The updates. -/
def refUpd (y : Vec F S4x2048 .f32) : Vec F S4x2048 .f32 :=
  Host.divf (broadcastInDim S4x2048 ![] bcast_S_S4x2048 (constant S_ .f32 0x3F800000#32))
    (addf (broadcastInDim S4x2048 ![] bcast_S_S4x2048 (constant S_ .f32 0x3F800000#32)) (Host.exp (Host.negf y)))

/-- The allocated rows, batch after batch. -/
def refRows (a : Vec F S4x128 .f32) : Vec F S64 .i32 := shapeCast S64 (Host.topK S4x16 1 (FloatOps.cmpfTotal .gt) a sliceFits_S4x128_S4x16).2 shapeCasts_S4x16_S64

/-- The rows with negative numbers wrapped round, one column. -/
def refIdx (r : Vec F S64 .i32) : Vec F S64x1 .i32 :=
  broadcastInDim S64x1 ![0] bcast_S64_S64x1_0 (select (cmpi .slt r (broadcastInDim S64 ![] bcast_S_S64 (constantI S_ 32 0#32)))
    (addi r (broadcastInDim S64 ![] bcast_S_S64 (constantI S_ 32 128#32))) r)

/-- The new bank. -/
def refBank (b : Vec F S128x2048 .f32) (r : Vec F S64 .i32) (u : Vec F S4x2048 .f32) : Vec F S128x2048 .f32 :=
  Host.scatter scatter_S128x2048_S64x1_S64x2048_1_0_0_1 (fun _ b => b) b (refIdx r) (shapeCast S64x2048 (broadcastInDim S4x16x2048 ![0, 2] bcast_S4x2048_S4x16x2048_0_2 u) shapeCasts_S4x16x2048_S64x2048)

/-- The mean of the hidden states over the sequence. -/
def poolOps : List (HloOp τ sig (Elt F)) :=
  [ nullary main_cst (constant S_ .f32 0x00000000#32),
    binary main_arg0 main_cst main_v0 ((fun x v => Host.reduceAdd x v reducesTo_S4x4096x2048_S4x2048_d1 h_S_) : (⟨S4x4096x2048, .f32⟩ : BufTy).Contents (Elt F) → (⟨S_, .f32⟩ : BufTy).Contents (Elt F) → (⟨S4x2048, .f32⟩ : BufTy).Contents (Elt F)),
    nullary main_cst_0 (constant S_ .f32 0x45800000#32),
    unary main_cst_0 main_v1 (broadcastInDim S4x2048 ![] bcast_S_S4x2048 : (⟨S_, .f32⟩ : BufTy).Contents (Elt F) → (⟨S4x2048, .f32⟩ : BufTy).Contents (Elt F)),
    binary main_v0 main_v1 main_v2 (Host.divf : (⟨S4x2048, .f32⟩ : BufTy).Contents (Elt F) → (⟨S4x2048, .f32⟩ : BufTy).Contents (Elt F) → (⟨S4x2048, .f32⟩ : BufTy).Contents (Elt F)) ]

/-- The allocation scores of the mean, by a softmax over the bank's rows. -/
def allocOps : List (HloOp τ sig (Elt F)) :=
  [ unary main_arg3 main_v3 ((transpose S2048x128 [1, 0] · transposes_S128x2048_S2048x128_1_0) : (⟨S128x2048, .f32⟩ : BufTy).Contents (Elt F) → (⟨S2048x128, .f32⟩ : BufTy).Contents (Elt F)),
    binary main_v2 main_v3 main_v4 ((fun l r => Host.dotGeneral dot_S4x2048_S2048x128_S4x128_1_0_0_1_n_n none l r) : (⟨S4x2048, .f32⟩ : BufTy).Contents (Elt F) → (⟨S2048x128, .f32⟩ : BufTy).Contents (Elt F) → (⟨S4x128, .f32⟩ : BufTy).Contents (Elt F)),
    unary main_arg4 main_v5 (broadcastInDim S1x128 ![1] bcast_S128_S1x128_1 : (⟨S128, .f32⟩ : BufTy).Contents (Elt F) → (⟨S1x128, .f32⟩ : BufTy).Contents (Elt F)),
    unary main_v5 main_v6 (broadcastInDim S4x128 ![0, 1] bcast_S1x128_S4x128_0_1 : (⟨S1x128, .f32⟩ : BufTy).Contents (Elt F) → (⟨S4x128, .f32⟩ : BufTy).Contents (Elt F)),
    binary main_v4 main_v6 main_v7 (addf : (⟨S4x128, .f32⟩ : BufTy).Contents (Elt F) → (⟨S4x128, .f32⟩ : BufTy).Contents (Elt F) → (⟨S4x128, .f32⟩ : BufTy).Contents (Elt F)),
    nullary main_cst_1 (constant S_ .f32 0xFF800000#32),
    binary main_v7 main_cst_1 main_v8 ((fun x v => Host.reduce FloatOps.maximumf x v reducesTo_S4x128_S4_d1 h_S_) : (⟨S4x128, .f32⟩ : BufTy).Contents (Elt F) → (⟨S_, .f32⟩ : BufTy).Contents (Elt F) → (⟨S4, .f32⟩ : BufTy).Contents (Elt F)),
    nullary main_cst_2 (constant S_ .f32 0xFF800000#32),
    unary main_cst_2 main_v9 (broadcastInDim S4 ![] bcast_S_S4 : (⟨S_, .f32⟩ : BufTy).Contents (Elt F) → (⟨S4, .f32⟩ : BufTy).Contents (Elt F)),
    binary main_v9 main_v8 main_v10 (maximumf : (⟨S4, .f32⟩ : BufTy).Contents (Elt F) → (⟨S4, .f32⟩ : BufTy).Contents (Elt F) → (⟨S4, .f32⟩ : BufTy).Contents (Elt F)),
    unary main_v10 main_v11 (broadcastInDim S4x1 ![0] bcast_S4_S4x1_0 : (⟨S4, .f32⟩ : BufTy).Contents (Elt F) → (⟨S4x1, .f32⟩ : BufTy).Contents (Elt F)),
    unary main_v11 main_v12 (broadcastInDim S4x128 ![0, 1] bcast_S4x1_S4x128_0_1 : (⟨S4x1, .f32⟩ : BufTy).Contents (Elt F) → (⟨S4x128, .f32⟩ : BufTy).Contents (Elt F)),
    binary main_v7 main_v12 main_v13 (subf : (⟨S4x128, .f32⟩ : BufTy).Contents (Elt F) → (⟨S4x128, .f32⟩ : BufTy).Contents (Elt F) → (⟨S4x128, .f32⟩ : BufTy).Contents (Elt F)),
    unary main_v13 main_v14 (Host.exp : (⟨S4x128, .f32⟩ : BufTy).Contents (Elt F) → (⟨S4x128, .f32⟩ : BufTy).Contents (Elt F)),
    nullary main_cst_3 (constant S_ .f32 0x00000000#32),
    binary main_v14 main_cst_3 main_v15 ((fun x v => Host.reduceAdd x v reducesTo_S4x128_S4_d1 h_S_) : (⟨S4x128, .f32⟩ : BufTy).Contents (Elt F) → (⟨S_, .f32⟩ : BufTy).Contents (Elt F) → (⟨S4, .f32⟩ : BufTy).Contents (Elt F)),
    unary main_v15 main_v16 (broadcastInDim S4x1 ![0] bcast_S4_S4x1_0 : (⟨S4, .f32⟩ : BufTy).Contents (Elt F) → (⟨S4x1, .f32⟩ : BufTy).Contents (Elt F)),
    unary main_v16 main_v17 (broadcastInDim S4x128 ![0, 1] bcast_S4x1_S4x128_0_1 : (⟨S4x1, .f32⟩ : BufTy).Contents (Elt F) → (⟨S4x128, .f32⟩ : BufTy).Contents (Elt F)),
    binary main_v14 main_v17 main_v18 (Host.divf : (⟨S4x128, .f32⟩ : BufTy).Contents (Elt F) → (⟨S4x128, .f32⟩ : BufTy).Contents (Elt F) → (⟨S4x128, .f32⟩ : BufTy).Contents (Elt F)) ]

/-- The retrieval weights of the mean, by a softmax over the bank's rows. -/
def retrOps : List (HloOp τ sig (Elt F)) :=
  [ unary main_arg5 main_v19 ((transpose S2048x128 [1, 0] · transposes_S128x2048_S2048x128_1_0) : (⟨S128x2048, .f32⟩ : BufTy).Contents (Elt F) → (⟨S2048x128, .f32⟩ : BufTy).Contents (Elt F)),
    binary main_v2 main_v19 main_v20 ((fun l r => Host.dotGeneral dot_S4x2048_S2048x128_S4x128_1_0_0_1_n_n none l r) : (⟨S4x2048, .f32⟩ : BufTy).Contents (Elt F) → (⟨S2048x128, .f32⟩ : BufTy).Contents (Elt F) → (⟨S4x128, .f32⟩ : BufTy).Contents (Elt F)),
    unary main_arg6 main_v21 (broadcastInDim S1x128 ![1] bcast_S128_S1x128_1 : (⟨S128, .f32⟩ : BufTy).Contents (Elt F) → (⟨S1x128, .f32⟩ : BufTy).Contents (Elt F)),
    unary main_v21 main_v22 (broadcastInDim S4x128 ![0, 1] bcast_S1x128_S4x128_0_1 : (⟨S1x128, .f32⟩ : BufTy).Contents (Elt F) → (⟨S4x128, .f32⟩ : BufTy).Contents (Elt F)),
    binary main_v20 main_v22 main_v23 (addf : (⟨S4x128, .f32⟩ : BufTy).Contents (Elt F) → (⟨S4x128, .f32⟩ : BufTy).Contents (Elt F) → (⟨S4x128, .f32⟩ : BufTy).Contents (Elt F)),
    nullary main_cst_4 (constant S_ .f32 0xFF800000#32),
    binary main_v23 main_cst_4 main_v24 ((fun x v => Host.reduce FloatOps.maximumf x v reducesTo_S4x128_S4_d1 h_S_) : (⟨S4x128, .f32⟩ : BufTy).Contents (Elt F) → (⟨S_, .f32⟩ : BufTy).Contents (Elt F) → (⟨S4, .f32⟩ : BufTy).Contents (Elt F)),
    nullary main_cst_5 (constant S_ .f32 0xFF800000#32),
    unary main_cst_5 main_v25 (broadcastInDim S4 ![] bcast_S_S4 : (⟨S_, .f32⟩ : BufTy).Contents (Elt F) → (⟨S4, .f32⟩ : BufTy).Contents (Elt F)),
    binary main_v25 main_v24 main_v26 (maximumf : (⟨S4, .f32⟩ : BufTy).Contents (Elt F) → (⟨S4, .f32⟩ : BufTy).Contents (Elt F) → (⟨S4, .f32⟩ : BufTy).Contents (Elt F)),
    unary main_v26 main_v27 (broadcastInDim S4x1 ![0] bcast_S4_S4x1_0 : (⟨S4, .f32⟩ : BufTy).Contents (Elt F) → (⟨S4x1, .f32⟩ : BufTy).Contents (Elt F)),
    unary main_v27 main_v28 (broadcastInDim S4x128 ![0, 1] bcast_S4x1_S4x128_0_1 : (⟨S4x1, .f32⟩ : BufTy).Contents (Elt F) → (⟨S4x128, .f32⟩ : BufTy).Contents (Elt F)),
    binary main_v23 main_v28 main_v29 (subf : (⟨S4x128, .f32⟩ : BufTy).Contents (Elt F) → (⟨S4x128, .f32⟩ : BufTy).Contents (Elt F) → (⟨S4x128, .f32⟩ : BufTy).Contents (Elt F)),
    unary main_v29 main_v30 (Host.exp : (⟨S4x128, .f32⟩ : BufTy).Contents (Elt F) → (⟨S4x128, .f32⟩ : BufTy).Contents (Elt F)),
    nullary main_cst_6 (constant S_ .f32 0x00000000#32),
    binary main_v30 main_cst_6 main_v31 ((fun x v => Host.reduceAdd x v reducesTo_S4x128_S4_d1 h_S_) : (⟨S4x128, .f32⟩ : BufTy).Contents (Elt F) → (⟨S_, .f32⟩ : BufTy).Contents (Elt F) → (⟨S4, .f32⟩ : BufTy).Contents (Elt F)),
    unary main_v31 main_v32 (broadcastInDim S4x1 ![0] bcast_S4_S4x1_0 : (⟨S4, .f32⟩ : BufTy).Contents (Elt F) → (⟨S4x1, .f32⟩ : BufTy).Contents (Elt F)),
    unary main_v32 main_v33 (broadcastInDim S4x128 ![0, 1] bcast_S4x1_S4x128_0_1 : (⟨S4x1, .f32⟩ : BufTy).Contents (Elt F) → (⟨S4x128, .f32⟩ : BufTy).Contents (Elt F)),
    binary main_v30 main_v33 main_v34 (Host.divf : (⟨S4x128, .f32⟩ : BufTy).Contents (Elt F) → (⟨S4x128, .f32⟩ : BufTy).Contents (Elt F) → (⟨S4x128, .f32⟩ : BufTy).Contents (Elt F)) ]

/-- The retrieved memory at every position, and the number of the layer. -/
def mixOps : List (HloOp τ sig (Elt F)) :=
  [ binary main_v34 main_arg2 main_v35 ((fun l r => Host.dotGeneral dot_S4x128_S128x2048_S4x2048_1_0_0_1_n_n none l r) : (⟨S4x128, .f32⟩ : BufTy).Contents (Elt F) → (⟨S128x2048, .f32⟩ : BufTy).Contents (Elt F) → (⟨S4x2048, .f32⟩ : BufTy).Contents (Elt F)),
    unary main_v35 main_v36 (broadcastInDim S4x1x2048 ![0, 2] bcast_S4x2048_S4x1x2048_0_2 : (⟨S4x2048, .f32⟩ : BufTy).Contents (Elt F) → (⟨S4x1x2048, .f32⟩ : BufTy).Contents (Elt F)),
    unary main_v36 main_v37 (broadcastInDim S4x4096x2048 ![0, 1, 2] bcast_S4x1x2048_S4x4096x2048_0_1_2 : (⟨S4x1x2048, .f32⟩ : BufTy).Contents (Elt F) → (⟨S4x4096x2048, .f32⟩ : BufTy).Contents (Elt F)),
    nullary main_c (constantI S_ 32 0#32),
    binary main_arg1 main_c main_v38 (cmpi .slt : (⟨S_, .i32⟩ : BufTy).Contents (Elt F) → (⟨S_, .i32⟩ : BufTy).Contents (Elt F) → (⟨S_, .i1⟩ : BufTy).Contents (Elt F)),
    nullary main_c_7 (constantI S_ 32 24#32),
    binary main_arg1 main_c_7 main_v39 (addi : (⟨S_, .i32⟩ : BufTy).Contents (Elt F) → (⟨S_, .i32⟩ : BufTy).Contents (Elt F) → (⟨S_, .i32⟩ : BufTy).Contents (Elt F)),
    ternary main_v38 main_v39 main_arg1 main_v40 (select : (⟨S_, .i1⟩ : BufTy).Contents (Elt F) → (⟨S_, .i32⟩ : BufTy).Contents (Elt F) → (⟨S_, .i32⟩ : BufTy).Contents (Elt F) → (⟨S_, .i32⟩ : BufTy).Contents (Elt F)) ]

/-- The hidden states plus the scaled retrieved memory. -/
def combOps : List (HloOp τ sig (Elt F)) :=
  [ unaryIndexed main_arg9 ![main_v40] ⟨S_, .i32⟩ main_v41 ((fun x i => Host.dynamicSlice S1 x (fun k => (i k (Shape.Idx.first h_S_)).toInt) sliceFits_S24_S1) : (⟨S24, .f32⟩ : BufTy).Contents (Elt F) → (Fin 1 → (⟨S_, .i32⟩ : BufTy).Contents (Elt F)) → (⟨S1, .f32⟩ : BufTy).Contents (Elt F)),
    reshape main_v41 main_v42 (rfl : (.f32 : EltTy) = .f32) shapeCasts_S1_S_,
    unary main_v42 main_v43 (broadcastInDim S4x4096x2048 ![] bcast_S_S4x4096x2048 : (⟨S_, .f32⟩ : BufTy).Contents (Elt F) → (⟨S4x4096x2048, .f32⟩ : BufTy).Contents (Elt F)),
    binary main_v37 main_v43 main_v44 (mulf : (⟨S4x4096x2048, .f32⟩ : BufTy).Contents (Elt F) → (⟨S4x4096x2048, .f32⟩ : BufTy).Contents (Elt F) → (⟨S4x4096x2048, .f32⟩ : BufTy).Contents (Elt F)),
    binary main_arg0 main_v44 main_v45 (addf : (⟨S4x4096x2048, .f32⟩ : BufTy).Contents (Elt F) → (⟨S4x4096x2048, .f32⟩ : BufTy).Contents (Elt F) → (⟨S4x4096x2048, .f32⟩ : BufTy).Contents (Elt F)) ]

/-- The updates, from the mean of that sum. -/
def updOps : List (HloOp τ sig (Elt F)) :=
  [ nullary main_cst_8 (constant S_ .f32 0x00000000#32),
    binary main_v45 main_cst_8 main_v46 ((fun x v => Host.reduceAdd x v reducesTo_S4x4096x2048_S4x2048_d1 h_S_) : (⟨S4x4096x2048, .f32⟩ : BufTy).Contents (Elt F) → (⟨S_, .f32⟩ : BufTy).Contents (Elt F) → (⟨S4x2048, .f32⟩ : BufTy).Contents (Elt F)),
    nullary main_cst_9 (constant S_ .f32 0x45800000#32),
    unary main_cst_9 main_v47 (broadcastInDim S4x2048 ![] bcast_S_S4x2048 : (⟨S_, .f32⟩ : BufTy).Contents (Elt F) → (⟨S4x2048, .f32⟩ : BufTy).Contents (Elt F)),
    binary main_v46 main_v47 main_v48 (Host.divf : (⟨S4x2048, .f32⟩ : BufTy).Contents (Elt F) → (⟨S4x2048, .f32⟩ : BufTy).Contents (Elt F) → (⟨S4x2048, .f32⟩ : BufTy).Contents (Elt F)),
    unary main_arg7 main_v49 ((transpose S2048x2048 [1, 0] · transposes_S2048x2048_S2048x2048_1_0) : (⟨S2048x2048, .f32⟩ : BufTy).Contents (Elt F) → (⟨S2048x2048, .f32⟩ : BufTy).Contents (Elt F)),
    binary main_v48 main_v49 main_v50 ((fun l r => Host.dotGeneral dot_S4x2048_S2048x2048_S4x2048_1_0_0_1_n_n none l r) : (⟨S4x2048, .f32⟩ : BufTy).Contents (Elt F) → (⟨S2048x2048, .f32⟩ : BufTy).Contents (Elt F) → (⟨S4x2048, .f32⟩ : BufTy).Contents (Elt F)),
    unary main_arg8 main_v51 (broadcastInDim S1x2048 ![1] bcast_S2048_S1x2048_1 : (⟨S2048, .f32⟩ : BufTy).Contents (Elt F) → (⟨S1x2048, .f32⟩ : BufTy).Contents (Elt F)),
    unary main_v51 main_v52 (broadcastInDim S4x2048 ![0, 1] bcast_S1x2048_S4x2048_0_1 : (⟨S1x2048, .f32⟩ : BufTy).Contents (Elt F) → (⟨S4x2048, .f32⟩ : BufTy).Contents (Elt F)),
    binary main_v50 main_v52 main_v53 (addf : (⟨S4x2048, .f32⟩ : BufTy).Contents (Elt F) → (⟨S4x2048, .f32⟩ : BufTy).Contents (Elt F) → (⟨S4x2048, .f32⟩ : BufTy).Contents (Elt F)),
    unary main_v53 main_v54 (Host.negf : (⟨S4x2048, .f32⟩ : BufTy).Contents (Elt F) → (⟨S4x2048, .f32⟩ : BufTy).Contents (Elt F)),
    unary main_v54 main_v55 (Host.exp : (⟨S4x2048, .f32⟩ : BufTy).Contents (Elt F) → (⟨S4x2048, .f32⟩ : BufTy).Contents (Elt F)),
    nullary main_cst_10 (constant S_ .f32 0x3F800000#32),
    unary main_cst_10 main_v56 (broadcastInDim S4x2048 ![] bcast_S_S4x2048 : (⟨S_, .f32⟩ : BufTy).Contents (Elt F) → (⟨S4x2048, .f32⟩ : BufTy).Contents (Elt F)),
    binary main_v56 main_v55 main_v57 (addf : (⟨S4x2048, .f32⟩ : BufTy).Contents (Elt F) → (⟨S4x2048, .f32⟩ : BufTy).Contents (Elt F) → (⟨S4x2048, .f32⟩ : BufTy).Contents (Elt F)),
    nullary main_cst_11 (constant S_ .f32 0x3F800000#32),
    unary main_cst_11 main_v58 (broadcastInDim S4x2048 ![] bcast_S_S4x2048 : (⟨S_, .f32⟩ : BufTy).Contents (Elt F) → (⟨S4x2048, .f32⟩ : BufTy).Contents (Elt F)),
    binary main_v58 main_v57 main_v59 (Host.divf : (⟨S4x2048, .f32⟩ : BufTy).Contents (Elt F) → (⟨S4x2048, .f32⟩ : BufTy).Contents (Elt F) → (⟨S4x2048, .f32⟩ : BufTy).Contents (Elt F)) ]

/-- The updates set into the bank at the allocated rows. -/
def scatOps : List (HloOp τ sig (Elt F)) :=
  [ unary main_v18 main_values ((fun x => (Host.topK S4x16 1 (FloatOps.cmpfTotal .gt) x sliceFits_S4x128_S4x16).1) : (⟨S4x128, .f32⟩ : BufTy).Contents (Elt F) → (⟨S4x16, .f32⟩ : BufTy).Contents (Elt F)),
    unary main_v18 main_indices ((fun x => (Host.topK S4x16 1 (FloatOps.cmpfTotal .gt) x sliceFits_S4x128_S4x16).2) : (⟨S4x128, .f32⟩ : BufTy).Contents (Elt F) → (⟨S4x16, .i32⟩ : BufTy).Contents (Elt F)),
    reshape main_indices main_v60 (rfl : (.i32 : EltTy) = .i32) shapeCasts_S4x16_S64,
    unary main_v59 main_v61 (broadcastInDim S4x16x2048 ![0, 2] bcast_S4x2048_S4x16x2048_0_2 : (⟨S4x2048, .f32⟩ : BufTy).Contents (Elt F) → (⟨S4x16x2048, .f32⟩ : BufTy).Contents (Elt F)),
    reshape main_v61 main_v62 (rfl : (.f32 : EltTy) = .f32) shapeCasts_S4x16x2048_S64x2048,
    nullary main_c_12 (constantI S_ 32 0#32),
    unary main_c_12 main_v63 (broadcastInDim S64 ![] bcast_S_S64 : (⟨S_, .i32⟩ : BufTy).Contents (Elt F) → (⟨S64, .i32⟩ : BufTy).Contents (Elt F)),
    binary main_v60 main_v63 main_v64 (cmpi .slt : (⟨S64, .i32⟩ : BufTy).Contents (Elt F) → (⟨S64, .i32⟩ : BufTy).Contents (Elt F) → (⟨S64, .i1⟩ : BufTy).Contents (Elt F)),
    nullary main_c_13 (constantI S_ 32 128#32),
    unary main_c_13 main_v65 (broadcastInDim S64 ![] bcast_S_S64 : (⟨S_, .i32⟩ : BufTy).Contents (Elt F) → (⟨S64, .i32⟩ : BufTy).Contents (Elt F)),
    binary main_v60 main_v65 main_v66 (addi : (⟨S64, .i32⟩ : BufTy).Contents (Elt F) → (⟨S64, .i32⟩ : BufTy).Contents (Elt F) → (⟨S64, .i32⟩ : BufTy).Contents (Elt F)),
    ternary main_v64 main_v66 main_v60 main_v67 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v67 main_v68 (broadcastInDim S64x1 ![0] bcast_S64_S64x1_0 : (⟨S64, .i32⟩ : BufTy).Contents (Elt F) → (⟨S64x1, .i32⟩ : BufTy).Contents (Elt F)),
    ternary main_arg2 main_v68 main_v62 main_v69 ((fun x i u => Host.scatter scatter_S128x2048_S64x1_S64x2048_1_0_0_1 (fun _ b => b) x i u) : (⟨S128x2048, .f32⟩ : BufTy).Contents (Elt F) → (⟨S64x1, .i32⟩ : BufTy).Contents (Elt F) → (⟨S64x2048, .f32⟩ : BufTy).Contents (Elt F) → (⟨S128x2048, .f32⟩ : BufTy).Contents (Elt F)) ]

/-- What that stage writes. -/
def poolWrites : List (Ref sig .tc) := [main_cst, main_v0, main_cst_0, main_v1, main_v2]

/-- What that stage writes. -/
def allocWrites : List (Ref sig .tc) := [main_v3, main_v4, main_v5, main_v6, main_v7, main_cst_1, main_v8, main_cst_2, main_v9, main_v10, main_v11, main_v12, main_v13, main_v14, main_cst_3, main_v15, main_v16, main_v17, main_v18]

/-- What that stage writes. -/
def retrWrites : List (Ref sig .tc) := [main_v19, main_v20, main_v21, main_v22, main_v23, main_cst_4, main_v24, main_cst_5, main_v25, main_v26, main_v27, main_v28, main_v29, main_v30, main_cst_6, main_v31, main_v32, main_v33, main_v34]

/-- What that stage writes. -/
def mixWrites : List (Ref sig .tc) := [main_v35, main_v36, main_v37, main_c, main_v38, main_c_7, main_v39, main_v40]

/-- What that stage writes. -/
def combWrites : List (Ref sig .tc) := [main_v41, main_v42, main_v43, main_v44, main_v45]

/-- What that stage writes. -/
def updWrites : List (Ref sig .tc) := [main_cst_8, main_v46, main_cst_9, main_v47, main_v48, main_v49, main_v50, main_v51, main_v52, main_v53, main_v54, main_v55, main_cst_10, main_v56, main_v57, main_cst_11, main_v58, main_v59]

/-- What that stage writes. -/
def scatWrites : List (Ref sig .tc) := [main_values, main_indices, main_v60, main_v61, main_v62, main_c_12, main_v63, main_v64, main_c_13, main_v65, main_v66, main_v67, main_v68, main_v69]

variable (V : Valuation τ sig (Elt F))

/-! ### What each stage leaves -/

/-- The stage's last buffer, from what the stage reads. -/
theorem pool_reads : after poolOps V (Proc.devRef .tc main_v2) = refMean (V (Proc.devRef .tc main_arg0)) := by
  unfold poolOps
  after_results_simp <;> rfl

/-- The stage leaves every other buffer alone. -/
theorem pool_keeps {r : Ref sig .tc} (hr : r ∉ poolWrites) : after (poolOps (F := F)) V (Proc.devRef .tc r) = V (Proc.devRef .tc r) :=
  after_of_writes_sub _ V (forall_writes_sub_of_map (by unfold poolOps poolWrites; rfl)) hr

/-- The stage touches the main memory's buffers. -/
theorem pool_bufs : (poolOps (F := F)).Forall fun op => op.bufs ⊆ tcRefs τ sig := by
  unfold poolOps
  simp only [List.Forall, nullary_bufs_sub, unary_bufs_sub, binary_bufs_sub, ternary_bufs_sub, reshape_bufs_sub, unaryIndexed_bufs_sub, and_self]

/-- The stage allocates nothing. -/
theorem pool_fresh : ∀ op ∈ poolOps (F := F), op.fresh = ∅ := by
  unfold poolOps
  intro _ h; (repeat (cases h with | head => rfl | tail _ h => ?_)); exact nomatch h

/-- The stage's last buffer, from what the stage reads. -/
theorem alloc_reads : after allocOps V (Proc.devRef .tc main_v18) = refSoft (refLogits (V (Proc.devRef .tc main_v2)) (V (Proc.devRef .tc main_arg3)) (V (Proc.devRef .tc main_arg4))) := by
  unfold allocOps
  after_results_simp <;> rfl

/-- The stage leaves every other buffer alone. -/
theorem alloc_keeps {r : Ref sig .tc} (hr : r ∉ allocWrites) : after (allocOps (F := F)) V (Proc.devRef .tc r) = V (Proc.devRef .tc r) :=
  after_of_writes_sub _ V (forall_writes_sub_of_map (by unfold allocOps allocWrites; rfl)) hr

/-- The stage touches the main memory's buffers. -/
theorem alloc_bufs : (allocOps (F := F)).Forall fun op => op.bufs ⊆ tcRefs τ sig := by
  unfold allocOps
  simp only [List.Forall, nullary_bufs_sub, unary_bufs_sub, binary_bufs_sub, ternary_bufs_sub, reshape_bufs_sub, unaryIndexed_bufs_sub, and_self]

/-- The stage allocates nothing. -/
theorem alloc_fresh : ∀ op ∈ allocOps (F := F), op.fresh = ∅ := by
  unfold allocOps
  intro _ h; (repeat (cases h with | head => rfl | tail _ h => ?_)); exact nomatch h

/-- The stage's last buffer, from what the stage reads. -/
theorem retr_reads : after retrOps V (Proc.devRef .tc main_v34) = refSoft (refLogits (V (Proc.devRef .tc main_v2)) (V (Proc.devRef .tc main_arg5)) (V (Proc.devRef .tc main_arg6))) := by
  unfold retrOps
  after_results_simp <;> rfl

/-- The stage leaves every other buffer alone. -/
theorem retr_keeps {r : Ref sig .tc} (hr : r ∉ retrWrites) : after (retrOps (F := F)) V (Proc.devRef .tc r) = V (Proc.devRef .tc r) :=
  after_of_writes_sub _ V (forall_writes_sub_of_map (by unfold retrOps retrWrites; rfl)) hr

/-- The stage touches the main memory's buffers. -/
theorem retr_bufs : (retrOps (F := F)).Forall fun op => op.bufs ⊆ tcRefs τ sig := by
  unfold retrOps
  simp only [List.Forall, nullary_bufs_sub, unary_bufs_sub, binary_bufs_sub, ternary_bufs_sub, reshape_bufs_sub, unaryIndexed_bufs_sub, and_self]

/-- The stage allocates nothing. -/
theorem retr_fresh : ∀ op ∈ retrOps (F := F), op.fresh = ∅ := by
  unfold retrOps
  intro _ h; (repeat (cases h with | head => rfl | tail _ h => ?_)); exact nomatch h

/-- The stage's last buffer, from what the stage reads. -/
theorem mix_reads : after mixOps V (Proc.devRef .tc main_v37) = refSpread (refRetr (V (Proc.devRef .tc main_v34)) (V (Proc.devRef .tc main_arg2))) := by
  unfold mixOps
  after_results_simp <;> rfl

/-- The layer's number, from the argument. -/
theorem mix_layer : after mixOps V (Proc.devRef .tc main_v40) = refLayer (V (Proc.devRef .tc main_arg1)) := by
  unfold mixOps
  after_results_simp <;> rfl

/-- The stage leaves every other buffer alone. -/
theorem mix_keeps {r : Ref sig .tc} (hr : r ∉ mixWrites) : after (mixOps (F := F)) V (Proc.devRef .tc r) = V (Proc.devRef .tc r) :=
  after_of_writes_sub _ V (forall_writes_sub_of_map (by unfold mixOps mixWrites; rfl)) hr

/-- The stage touches the main memory's buffers. -/
theorem mix_bufs : (mixOps (F := F)).Forall fun op => op.bufs ⊆ tcRefs τ sig := by
  unfold mixOps
  simp only [List.Forall, nullary_bufs_sub, unary_bufs_sub, binary_bufs_sub, ternary_bufs_sub, reshape_bufs_sub, unaryIndexed_bufs_sub, and_self]

/-- The stage allocates nothing. -/
theorem mix_fresh : ∀ op ∈ mixOps (F := F), op.fresh = ∅ := by
  unfold mixOps
  intro _ h; (repeat (cases h with | head => rfl | tail _ h => ?_)); exact nomatch h

/-- The stage's last buffer, from what the stage reads. -/
theorem comb_reads : after combOps V (Proc.devRef .tc main_v45) = refComb (V (Proc.devRef .tc main_arg0)) (V (Proc.devRef .tc main_v37)) (refScale (V (Proc.devRef .tc main_v40)) (V (Proc.devRef .tc main_arg9))) := by
  unfold combOps
  after_results_simp
  exact congrArg (fun g : Fin 1 → ℤ => addf (V (Proc.devRef .tc main_arg0)) (mulf (V (Proc.devRef .tc main_v37)) (broadcastInDim S4x4096x2048 ![]
    bcast_S_S4x4096x2048 (shapeCast S_ (Host.dynamicSlice S1 (V (Proc.devRef .tc main_arg9)) g sliceFits_S24_S1) shapeCasts_S1_S_))))
    (funext fun k => match k with | ⟨0, _⟩ => rfl)

/-- The stage leaves every other buffer alone. -/
theorem comb_keeps {r : Ref sig .tc} (hr : r ∉ combWrites) : after (combOps (F := F)) V (Proc.devRef .tc r) = V (Proc.devRef .tc r) :=
  after_of_writes_sub _ V (forall_writes_sub_of_map (by unfold combOps combWrites; rfl)) hr

/-- The stage touches the main memory's buffers. -/
theorem comb_bufs : (combOps (F := F)).Forall fun op => op.bufs ⊆ tcRefs τ sig := by
  unfold combOps
  simp only [List.Forall, nullary_bufs_sub, unary_bufs_sub, binary_bufs_sub, ternary_bufs_sub, reshape_bufs_sub, unaryIndexed_bufs_sub, and_self]

/-- The stage allocates nothing. -/
theorem comb_fresh : ∀ op ∈ combOps (F := F), op.fresh = ∅ := by
  unfold combOps
  intro _ h; (repeat (cases h with | head => rfl | tail _ h => ?_)); exact nomatch h

/-- The stage's last buffer, from what the stage reads. -/
theorem upd_reads : after updOps V (Proc.devRef .tc main_v59) = refUpd (refPre (refMean (V (Proc.devRef .tc main_v45))) (V (Proc.devRef .tc main_arg7)) (V (Proc.devRef .tc main_arg8))) := by
  unfold updOps
  after_results_simp <;> rfl

/-- The stage leaves every other buffer alone. -/
theorem upd_keeps {r : Ref sig .tc} (hr : r ∉ updWrites) : after (updOps (F := F)) V (Proc.devRef .tc r) = V (Proc.devRef .tc r) :=
  after_of_writes_sub _ V (forall_writes_sub_of_map (by unfold updOps updWrites; rfl)) hr

/-- The stage touches the main memory's buffers. -/
theorem upd_bufs : (updOps (F := F)).Forall fun op => op.bufs ⊆ tcRefs τ sig := by
  unfold updOps
  simp only [List.Forall, nullary_bufs_sub, unary_bufs_sub, binary_bufs_sub, ternary_bufs_sub, reshape_bufs_sub, unaryIndexed_bufs_sub, and_self]

/-- The stage allocates nothing. -/
theorem upd_fresh : ∀ op ∈ updOps (F := F), op.fresh = ∅ := by
  unfold updOps
  intro _ h; (repeat (cases h with | head => rfl | tail _ h => ?_)); exact nomatch h

/-- The stage's last buffer, from what the stage reads. -/
theorem scat_reads : after scatOps V (Proc.devRef .tc main_v69) = refBank (V (Proc.devRef .tc main_arg2)) (refRows (V (Proc.devRef .tc main_v18))) (V (Proc.devRef .tc main_v59)) := by
  unfold scatOps
  after_results_simp <;> rfl

/-- The stage leaves every other buffer alone. -/
theorem scat_keeps {r : Ref sig .tc} (hr : r ∉ scatWrites) : after (scatOps (F := F)) V (Proc.devRef .tc r) = V (Proc.devRef .tc r) :=
  after_of_writes_sub _ V (forall_writes_sub_of_map (by unfold scatOps scatWrites; rfl)) hr

/-- The stage touches the main memory's buffers. -/
theorem scat_bufs : (scatOps (F := F)).Forall fun op => op.bufs ⊆ tcRefs τ sig := by
  unfold scatOps
  simp only [List.Forall, nullary_bufs_sub, unary_bufs_sub, binary_bufs_sub, ternary_bufs_sub, reshape_bufs_sub, unaryIndexed_bufs_sub, and_self]

/-- The stage allocates nothing. -/
theorem scat_fresh : ∀ op ∈ scatOps (F := F), op.fresh = ∅ := by
  unfold scatOps
  intro _ h; (repeat (cases h with | head => rfl | tail _ h => ?_)); exact nomatch h

end Cert.ReferenceIdeal.Hand

end
-- ==== Proof.Ref.Run.lean ====
module

public import proofs.«01_k».proof.Defs
public import proofs.«01_k».proof.Proof.Ref.Stages

/-! The reference's run: its results as functions of its arguments, its arguments kept, its frame. -/

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem Idealize.ShloMosaic.StableHlo

variable {F : FTy → Type} [FloatOps F]

/-- The stages in order. -/
def allOps : List (HloOp τ sig (Elt F)) := poolOps ++ (allocOps ++ (retrOps ++ (mixOps ++ (combOps ++ (updOps ++ scatOps)))))

set_option maxHeartbeats 4000000 in
/-- The program is its stages in order. -/
theorem main_stages (c : Dev nD) : main (F := F) c = seq allOps := by
  unfold allOps poolOps allocOps retrOps mixOps combOps updOps scatOps
  rfl

/-- The first result as a function of the arguments. -/
def refOut0 (x0 : Vec F S4x4096x2048 .f32) (x1 : Vec F S_ .i32) (x2 x5 : Vec F S128x2048 .f32) (x6 : Vec F S128 .f32) (x9 : Vec F S24 .f32) :
    Vec F S4x4096x2048 .f32 :=
  refComb x0 (refSpread (refRetr (refSoft (refLogits (refMean x0) x5 x6)) x2)) (refScale (refLayer x1) x9)

/-- The second result as a function of the arguments and the first result. -/
def refOut1 (x0 : Vec F S4x4096x2048 .f32) (x2 x3 : Vec F S128x2048 .f32) (x4 : Vec F S128 .f32) (x7 : Vec F S2048x2048 .f32) (x8 : Vec F S2048 .f32)
    (o : Vec F S4x4096x2048 .f32) : Vec F S128x2048 .f32 :=
  refBank x2 (refRows (refSoft (refLogits (refMean x0) x3 x4))) (refUpd (refPre (refMean o) x7 x8))

variable (V : Valuation τ sig (Elt F))

/-- A buffer that no stage writes keeps its contents. -/
theorem all_keeps {r : Ref sig .tc}
    (hr : r ∉ poolWrites ++ (allocWrites ++ (retrWrites ++ (mixWrites ++ (combWrites ++ (updWrites ++ scatWrites)))))) :
    after (allOps (F := F)) V (Proc.devRef .tc r) = V (Proc.devRef .tc r) := by
  simp only [List.mem_append, not_or] at hr
  obtain ⟨h1, h2, h3, h4, h5, h6, h7⟩ := hr
  unfold allOps
  simp only [after_append]
  rw [scat_keeps _ h7, upd_keeps _ h6, comb_keeps _ h5, mix_keeps _ h4, retr_keeps _ h3, alloc_keeps _ h2, pool_keeps _ h1]

/-- The first result after all stages. -/
theorem all_out0 : after (allOps (F := F)) V (Proc.devRef .tc main_v45)
    = refOut0 (V (Proc.devRef .tc main_arg0)) (V (Proc.devRef .tc main_arg1)) (V (Proc.devRef .tc main_arg2)) (V (Proc.devRef .tc main_arg5))
        (V (Proc.devRef .tc main_arg6)) (V (Proc.devRef .tc main_arg9)) := by
  unfold allOps refOut0
  simp only [after_append]
  rw [scat_keeps _ (r := main_v45) (by decide), upd_keeps _ (r := main_v45) (by decide), comb_reads, mix_reads, mix_layer]
  rw [mix_keeps _ (r := main_arg0) (by decide), mix_keeps _ (r := main_arg9) (by decide), retr_reads]
  rw [retr_keeps _ (r := main_arg0) (by decide), retr_keeps _ (r := main_arg1) (by decide), retr_keeps _ (r := main_arg2) (by decide),
    retr_keeps _ (r := main_arg9) (by decide)]
  rw [alloc_keeps _ (r := main_arg0) (by decide), alloc_keeps _ (r := main_arg1) (by decide), alloc_keeps _ (r := main_arg2) (by decide),
    alloc_keeps _ (r := main_arg5) (by decide), alloc_keeps _ (r := main_arg6) (by decide), alloc_keeps _ (r := main_arg9) (by decide),
    alloc_keeps _ (r := main_v2) (by decide), pool_reads]
  rw [pool_keeps _ (r := main_arg0) (by decide), pool_keeps _ (r := main_arg1) (by decide), pool_keeps _ (r := main_arg2) (by decide),
    pool_keeps _ (r := main_arg5) (by decide), pool_keeps _ (r := main_arg6) (by decide), pool_keeps _ (r := main_arg9) (by decide)]

/-- The second result after all stages. -/
theorem all_out1 : after (allOps (F := F)) V (Proc.devRef .tc main_v69)
    = refOut1 (V (Proc.devRef .tc main_arg0)) (V (Proc.devRef .tc main_arg2)) (V (Proc.devRef .tc main_arg3)) (V (Proc.devRef .tc main_arg4))
        (V (Proc.devRef .tc main_arg7)) (V (Proc.devRef .tc main_arg8))
        (refOut0 (V (Proc.devRef .tc main_arg0)) (V (Proc.devRef .tc main_arg1)) (V (Proc.devRef .tc main_arg2)) (V (Proc.devRef .tc main_arg5))
          (V (Proc.devRef .tc main_arg6)) (V (Proc.devRef .tc main_arg9))) := by
  rw [← all_out0]
  unfold allOps refOut1
  simp only [after_append]
  rw [scat_keeps _ (r := main_v45) (by decide), upd_keeps _ (r := main_v45) (by decide), scat_reads, upd_reads]
  rw [upd_keeps _ (r := main_arg2) (by decide), upd_keeps _ (r := main_v18) (by decide)]
  rw [comb_keeps _ (r := main_arg2) (by decide), comb_keeps _ (r := main_v18) (by decide), comb_keeps _ (r := main_arg7) (by decide),
    comb_keeps _ (r := main_arg8) (by decide)]
  rw [mix_keeps _ (r := main_arg2) (by decide), mix_keeps _ (r := main_v18) (by decide), mix_keeps _ (r := main_arg7) (by decide),
    mix_keeps _ (r := main_arg8) (by decide)]
  rw [retr_keeps _ (r := main_arg2) (by decide), retr_keeps _ (r := main_v18) (by decide), retr_keeps _ (r := main_arg7) (by decide),
    retr_keeps _ (r := main_arg8) (by decide), alloc_reads]
  rw [alloc_keeps _ (r := main_arg2) (by decide), alloc_keeps _ (r := main_arg7) (by decide), alloc_keeps _ (r := main_arg8) (by decide), pool_reads]
  rw [pool_keeps _ (r := main_arg2) (by decide), pool_keeps _ (r := main_arg3) (by decide), pool_keeps _ (r := main_arg4) (by decide),
    pool_keeps _ (r := main_arg7) (by decide), pool_keeps _ (r := main_arg8) (by decide)]

/-- Nothing in the program is scoped: no buffer. -/
theorem no_scoped_refs : (Finset.univ.filter fun b : Ref sig .tc => b.isScoped) = ∅ := by decide
/-- Nothing in the program is scoped: no semaphore. -/
theorem no_scoped_sems : (Finset.univ.filter fun sm : SemLoc sig => sm.isScoped .tc) = ∅ := by decide

/-- The stages touch the main memory's buffers. -/
theorem all_bufs : (allOps (F := F)).Forall fun op => op.bufs ⊆ tcRefs τ sig := by
  have h1 := List.forall_iff_forall_mem.mp (pool_bufs (F := F))
  have h2 := List.forall_iff_forall_mem.mp (alloc_bufs (F := F))
  have h3 := List.forall_iff_forall_mem.mp (retr_bufs (F := F))
  have h4 := List.forall_iff_forall_mem.mp (mix_bufs (F := F))
  have h5 := List.forall_iff_forall_mem.mp (comb_bufs (F := F))
  have h6 := List.forall_iff_forall_mem.mp (upd_bufs (F := F))
  have h7 := List.forall_iff_forall_mem.mp (scat_bufs (F := F))
  refine List.forall_iff_forall_mem.mpr fun op h => ?_
  unfold allOps at h
  simp only [List.mem_append] at h
  rcases h with h | h | h | h | h | h | h
  exacts [h1 op h, h2 op h, h3 op h, h4 op h, h5 op h, h6 op h, h7 op h]

/-- The stages allocate nothing. -/
theorem all_fresh : ∀ op ∈ allOps (F := F), op.fresh = ∅ := by
  intro op h
  unfold allOps at h
  simp only [List.mem_append] at h
  rcases h with h | h | h | h | h | h | h
  exacts [pool_fresh op h, alloc_fresh op h, retr_fresh op h, mix_fresh op h, comb_fresh op h, upd_fresh op h, scat_fresh op h]

/-- Every execution of the reference ends with each buffer at what the stages leave. -/
theorem run_stages (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after (allOps (F := F)) (launchContents m d) (Proc.devRef .tc b) :=
  run_seq no_scoped_refs no_scoped_sems defs main (fun _ => allOps) main_stages (fun _ => all_bufs) m ρ (fun _ => all_fresh)

end Cert.ReferenceIdeal.Hand

namespace Cert.Proof

open Idealize.ShloMosaic Idealize.SL.Sem
open Cert.ReferenceIdeal.Hand

/-- The reference runs and keeps its arguments; it declares no semaphore, so every counter it has is zero. -/
theorem reference_frame : @Cert.quiescent_ReferenceIdeal Cert.ReferenceIdeal.Gen.facts :=
  fun m g _ => (θ_run _ _ _).mono (fun r h => ⟨fun c =>
      ⟨(h c _).trans (all_keeps _ (by decide)), (h c _).trans (all_keeps _ (by decide)), (h c _).trans (all_keeps _ (by decide)),
        (h c _).trans (all_keeps _ (by decide)), (h c _).trans (all_keeps _ (by decide)), (h c _).trans (all_keeps _ (by decide)),
        (h c _).trans (all_keeps _ (by decide)), (h c _).trans (all_keeps _ (by decide)), (h c _).trans (all_keeps _ (by decide)),
        (h c _).trans (all_keeps _ (by decide))⟩, sem_eq_zero_of_no_sems rfl r.2⟩)
    (run_stages (F := Ideal) m g)

end Cert.Proof

end
-- ==== Proof.KI.Blocks.lean ====
module

public import proofs.«01_k».proof.Proof.KI.Data
public import Idealize.ShloMosaic.Lib.Pointwise
public import Idealize.ShloMosaic.Lib.Pipeline.ValueKit
public import Idealize.ShloMosaic.Lib.Claim
public import Idealize.ShloMosaic.Lib.Tactic

/-! What the kernel's input blocks hold, as elements of the arguments. -/

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]
variable (m : (ℓ : Loc nD τ sig) → Buf (Elt F) ℓ) (c : Dev nD)

/-- The block of hidden states a grid point reads. -/
def hidIx (n : ℕ) : ℕ := if n < 32 then n else if n < 53 then 31 else n - 33

/-- The block of hidden states a grid point reads. -/
theorem idx_hid : ∀ t : Fin grid0.N, (cfg0.win 0).index t = ![0, hidIx t.val, 0] := by decide +kernel
/-- The block of update weights a grid point from 32 to 47 reads. -/
theorem idx_wu : ∀ t : Fin grid0.N, 32 ≤ t.val ∧ t.val < 48 → (cfg0.win 5).index t = ![t.val - 32, 0] := by decide +kernel
/-- The allocation weights are one block. -/
theorem idx_wa : ∀ t : Fin grid0.N, (cfg0.win 1).index t = ![0, 0] := by decide +kernel
/-- The allocation bias is one block. -/
theorem idx_ba : ∀ t : Fin grid0.N, (cfg0.win 2).index t = ![0, 0] := by decide +kernel
/-- The retrieval weights are one block. -/
theorem idx_wr : ∀ t : Fin grid0.N, (cfg0.win 3).index t = ![0, 0] := by decide +kernel
/-- The retrieval bias is one block. -/
theorem idx_br : ∀ t : Fin grid0.N, (cfg0.win 4).index t = ![0, 0] := by decide +kernel
/-- The update bias is one block. -/
theorem idx_bu : ∀ t : Fin grid0.N, (cfg0.win 6).index t = ![0, 0] := by decide +kernel
/-- The bank is one block. -/
theorem idx_bank : ∀ t : Fin grid0.N, (cfg0.win 7).index t = ![0, 0] := by decide +kernel
/-- The layer's scale is one block. -/
theorem idx_scale : ∀ t : Fin grid0.N, (cfg0.win 8).index t = ![0, 0] := by decide +kernel

/-- There are thirty-two blocks of hidden states. -/
theorem hidIx_le (n : ℕ) (h : n < 64) : hidIx n < 32 := by unfold hidIx; split_ifs <;> omega

/-- A block of hidden states at an index: the hidden states at the block's positions. -/
theorem hidB_apply (t : Fin grid0.N) (b : Fin 4) (r : Fin 128) (h : Fin 2048) :
    hidB m c t (ix3 b r h) = m ((c.tc : Thread nD τ).loc main_arg0) (ix3 b ⟨hidIx t.val * 128 + r.val, by have := hidIx_le t.val t.isLt; omega⟩ h) := by
  blk_ext [hidB, iblk, V, idx_hid t]

/-- The allocation weights' block at an index. -/
theorem waB_apply (t : Fin grid0.N) (i : Fin 128) (h : Fin 2048) : waB m c t (ix2 i h) = m ((c.tc : Thread nD τ).loc main_arg3) (ix2 i h) := by
  blk_ext [waB, iblk, V, idx_wa t]

/-- The retrieval weights' block at an index. -/
theorem wrB_apply (t : Fin grid0.N) (i : Fin 128) (h : Fin 2048) : wrB m c t (ix2 i h) = m ((c.tc : Thread nD τ).loc main_arg5) (ix2 i h) := by
  blk_ext [wrB, iblk, V, idx_wr t]

/-- The bank's block at an index. -/
theorem bankB_apply (t : Fin grid0.N) (i : Fin 128) (h : Fin 2048) : bankB m c t (ix2 i h) = m ((c.tc : Thread nD τ).loc main_arg2) (ix2 i h) := by
  blk_ext [bankB, iblk, V, idx_bank t]

/-- The update weights' block at an index: the weights at the block's rows. -/
theorem wuB_apply (t : Fin grid0.N) (ht : 32 ≤ t.val ∧ t.val < 48) (r : Fin 128) (h : Fin 2048) :
    wuB m c t (ix2 r h) = m ((c.tc : Thread nD τ).loc main_arg7) (ix2 ⟨(t.val - 32) * 128 + r.val, by omega⟩ h) := by
  blk_ext [wuB, iblk, V, idx_wu t ht]

/-- The allocation bias's column at an index. -/
theorem baB_apply (t : Fin grid0.N) (i : Fin 128) : baB m c t (ix2 i 0) = m ((c.tc : Thread nD τ).loc main_arg4) (ix1 i) := by
  blk_ext! [baB, iblk, idx_ba t]

/-- The retrieval bias's row at an index. -/
theorem brB_apply (t : Fin grid0.N) (i : Fin 128) : brB m c t (ix2 0 i) = m ((c.tc : Thread nD τ).loc main_arg6) (ix1 i) := by
  blk_ext! [brB, iblk, idx_br t]

/-- The update bias's row at an index. -/
theorem buB_apply (t : Fin grid0.N) (i : Fin 2048) : buB m c t (ix2 0 i) = m ((c.tc : Thread nD τ).loc main_arg8) (ix1 i) := by
  blk_ext! [buB, iblk, idx_bu t]

end Cert.KernelIdeal.Hand

end
-- ==== Proof.KI.Arrays.lean ====
module

public import proofs.«01_k».proof.Proof.KI.Blocks
public import proofs.«01_k».proof.Proof.KI.Frame
public import proofs.«01_k».proof.Proof.Ref.Run

/-! The layer's scale as the reference reads it, and what the kernel's two result arrays hold after its run. -/

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]
variable (m : (ℓ : Loc nD τ sig) → Buf (Elt F) ℓ) (c : Dev nD)

/-- The scale the kernel's window holds is the reference's. -/
theorem scaleB_apply (t : Fin grid0.N) (i : S_.Idx) : scaleB m c t (ix2 0 0) =
    Cert.ReferenceIdeal.Hand.refScale (Cert.ReferenceIdeal.Hand.refLayer (m ((c.tc : Thread nD τ).loc main_arg1)))
      (m ((c.tc : Thread nD τ).loc main_arg9)) i := by
  blk_simp [scaleB, iblk, idx_scale t]
  entry_read
  unfold Cert.ReferenceIdeal.Hand.refScale Cert.ReferenceIdeal.Hand.refLayer
  refine Eq.trans (congrArg (fun g : Fin 1 → ℤ => shapeCast S1x1 (fun i => shapeCast S_
      (Host.dynamicSlice S1 (m ((c.tc : Thread nD τ).loc main_arg9)) g sliceFits_S24_S1) shapeCasts_S1_S_ i) shapeCasts_S_S1x1
        (((View.whole main_v5).slice (win0_8.rect t)).emb (ix2 0 0)))
    (a₂ := fun _ => ((select (cmpi .slt (m ((c.tc : Thread nD τ).loc main_arg1)) (constantI S_ 32 0#32))
      (addi (m ((c.tc : Thread nD τ).loc main_arg1)) (constantI S_ 32 24#32)) (m ((c.tc : Thread nD τ).loc main_arg1)) : Vec F S_ .i32)
        (Shape.Idx.first h_S_)).toInt) (funext fun k => match k with | ⟨0, _⟩ => rfl)) ?_
  have e : ((Shape.reshapeEquiv shapeCasts_S_S1x1) (((View.whole main_v5).slice (win0_8.rect t)).emb (ix2 0 0)) : S_.Idx) = i :=
    funext fun a => a.elim0
  subst e
  rfl

/-- The block of the first result a grid point writes, and when it is written back. -/
theorem idx_out : ∀ t : Fin grid0.N, (cfg0.win 10).index t = ![0, if t.val < 33 then 31 else t.val - 33, 0] := by decide +kernel
/-- The first result's blocks are written back only in the second half of the grid. -/
theorem flush_out : ∀ t : Fin grid0.N, (cfg0.win 10).flush t = true → 32 ≤ t.val := by decide +kernel
/-- The new bank is one block. -/
theorem idx_new : ∀ t : Fin grid0.N, (cfg0.win 9).index t = ![0, 0] := by decide +kernel

/-- The grid point that writes row `s` of the first result. -/
def outPt (s : ℕ) : Fin grid0.N := if 3968 ≤ s then pt 32 else pt (33 + s / 128)

/-- The grid point that writes a position, from the point and the place in its block. -/
theorem outPt_of (t : Fin grid0.N) (ht : 32 ≤ t.val) (r : ℕ) (hr : r < 128) :
    outPt ((if t.val < 33 then 31 else t.val - 33) * 128 + r) = t := by
  have h64 : t.val < 64 := t.isLt
  refine Fin.ext ?_
  unfold outPt
  split_ifs with h1 h2 h2 <;> rw [pt_val _ (by omega)] <;> omega

/-- The first result as combined blocks. -/
theorem out_array : (dats m 0 c).arrAt 10 cfg0.N = fun y : S4x4096x2048.Idx =>
    combFin m c (outPt (y 1).val) (ix3 (y 0) ⟨(y 1).val % 128, Nat.mod_lt _ (by decide)⟩ (y 2)) := by
  refine (dats m 0 c).arrAt_eq_of_covers 10 _ (by decide +kernel) fun t hf y => ?_
  have ht := flush_out t hf
  have hy : (y 1).val < 128 := (y 1).isLt
  blk_simp [idx_out t]
  rw [outPt_of t ht _ hy]
  refine congrArg (combFin m c t) (funext fun k => Fin.ext ?_)
  match k with
  | 0 => blk_simp [idx_out t]
  | 1 => blk_simp [idx_out t]; show (y 1).val = (_ * 128 + (y 1).val) % 128; omega
  | 2 => blk_simp [idx_out t]

/-- The second result is the new bank. -/
theorem bank_array : (dats m 0 c).arrAt 9 cfg0.N = bankFin m c := by
  refine (dats m 0 c).arrAt_eq_of_covers 9 _ (by decide +kernel) fun t hf y => ?_
  refine congrArg (bankFin m c) (funext fun k => Fin.ext ?_)
  match k with
  | 0 => blk_simp [idx_new t]
  | 1 => blk_simp [idx_new t]

end Cert.KernelIdeal.Hand

end
-- ==== Proof.Math.Reals.lean ====
module

public import Idealize.ShloMosaic.Lib.Pointwise

/-! Facts about extended reals: the constants of the two programs, sums over blocks, and means of shifted sequences. -/

@[expose] public section

noncomputable section

namespace Cert.Math

open Idealize.ShloMosaic

/-- The reference's divisor is the sequence's length. -/
theorem lit_len : Ideal.ofBits .f32 0x45800000#32 = ((4096 : ℝ) : EReal) := by
  simp [Ideal.ofBits, Ideal.ieee, -EReal.coe_mul]; norm_num

/-- The kernel's factor is its reciprocal. -/
theorem lit_inv : Ideal.ofBits .f32 0x39800000#32 = ((1 / 4096 : ℝ) : EReal) := by
  simp [Ideal.ofBits, Ideal.ieee, -EReal.coe_mul]; norm_num

/-- The maxima start at minus infinity. -/
theorem lit_bot : Ideal.ofBits .f32 0xFF800000#32 = ⊥ := by
  simp [Ideal.ofBits, Ideal.ieee]

/-- The precondition's bound is plus infinity. -/
theorem lit_top : Ideal.ofBits .f32 0x7F800000#32 = ⊤ := by
  simp [Ideal.ofBits, Ideal.ieee]

/-- Dividing by the length is multiplying by its reciprocal. -/
theorem div_len (x : EReal) : Ideal.div x (Ideal.ofBits .f32 0x45800000#32) = x * ((1 / 4096 : ℝ) : EReal) := by
  rw [lit_len, Ideal.div_coe (by norm_num)]

/-- The mean of a sequence shifted by a constant is the shifted mean. -/
theorem mean_shift (f : Fin 4096 → EReal) (q : EReal) :
    (∑ s, (f s + q)) * ((1 / 4096 : ℝ) : EReal) = (∑ s, f s) * ((1 / 4096 : ℝ) : EReal) + q := by
  rw [Finset.sum_add_distrib, EReal.right_distrib_of_nonneg_of_ne_top (by exact_mod_cast (by norm_num : (0 : ℝ) ≤ 1 / 4096)) (EReal.coe_ne_top _)]
  congr 1
  rw [Finset.sum_const, Finset.card_univ, Fintype.card_fin, EReal.nsmul_eq_mul, mul_right_comm]
  have h : ((4096 : ℕ) : EReal) * ((1 / 4096 : ℝ) : EReal) = 1 := by
    rw [show ((4096 : ℕ) : EReal) = ((4096 : ℝ) : EReal) by norm_cast, ← EReal.coe_mul]
    norm_num
  rw [h, one_mul]

/-- A running sum over blocks of 128 is the sum of everything so far. -/
theorem sum_blocks (X : ℕ → EReal) (n : ℕ) :
    (∑ k ∈ Finset.range (128 * n), X k) + ∑ r : Fin 128, X (n * 128 + r.val) = ∑ k ∈ Finset.range (128 * (n + 1)), X k := by
  rw [show 128 * (n + 1) = 128 * n + 128 by ring, Finset.sum_range_add, ← Finset.sum_range (fun k => X (n * 128 + k))]
  simp only [mul_comm]

end Cert.Math

end
-- ==== Proof.Math.Pool.lean ====
module

public import proofs.«01_k».proof.Proof.KI.Arrays
public import proofs.«01_k».proof.Proof.Math.Reals

/-! The pooled mean: the kernel's accumulated blocks against the reference's mean. -/

@[expose] public section

set_option maxRecDepth 16384

noncomputable section

namespace Cert.Math

open Idealize.ShloMosaic Idealize.ShloMosaic.TcCoe
open Cert.KernelIdeal Cert.KernelIdeal.Gen Cert.KernelIdeal.Hand Cert.ReferenceIdeal.Hand

variable (m : (ℓ : Loc nD τ sig) → Buf (Elt Ideal) ℓ) (c : Dev nD)

/-- The hidden states as launched. -/
abbrev hid : Vec Ideal S4x4096x2048 .f32 := m ((c.tc : Thread nD τ).loc main_arg0)

/-- One batch's column of hidden states, as a sequence. -/
def seqAt (x : Vec Ideal S4x4096x2048 .f32) (b : Fin 4) (h : Fin 2048) (k : ℕ) : EReal := if hk : k < 4096 then x (ix3 b ⟨k, hk⟩ h) else 0

/-- The accumulator after `n` blocks holds the sum of the first `128 n` rows. -/
theorem accAt_sum (b : Fin 4) (h : Fin 2048) (n : ℕ) (hn : n ≤ 32) :
    accAt m c n (ix2 b h) = ∑ k ∈ Finset.range (128 * n), seqAt (hid m c) b h k := by
  induction n with
  | zero =>
    unfold accAt
    pointwise [k0_pay1]
    simp
  | succ n ih =>
    rw [← sum_blocks, ← ih (by omega), accAt]
    pointwise [k0_pay2]
    refine congrArg (accAt m c n (ix2 b h) + ·) (Finset.sum_congr rfl fun r _ => ?_)
    have e : hidIx (pt n).val * 128 + r.val = n * 128 + r.val := by
      rw [pt_val n (by omega), hidIx, if_pos (by omega)]
    rw [hidB_apply]
    unfold seqAt
    rw [dif_pos (by omega)]
    exact congrArg (fun k => hid m c (ix3 b k h)) (Fin.ext e)

/-- The kernel's scaled accumulator is the reference's mean. -/
theorem pooled_eq : k0_pay8 (accAt m c 32) = refMean (hid m c) := by
  funext y
  idx_vars y
  pointwise [k0_pay8, refMean]
  rw [div_len, lit_inv, accAt_sum m c _ _ 32 le_rfl, Finset.sum_range]
  refine congrArg (· * _) (Finset.sum_congr rfl fun k _ => ?_)
  unfold seqAt
  rw [dif_pos k.isLt]

/-- The mean of the first result is the mean plus the shift. -/
theorem mean_comb (x : Vec Ideal S4x4096x2048 .f32) (y : Vec Ideal S4x2048 .f32) (s : Vec Ideal S_ .f32) (b : Fin 4) (h : Fin 2048) :
    refMean (refComb x (refSpread y) s) (ix2 b h) = refMean x (ix2 b h) + y (ix2 b h) * s ix0 := by
  pointwise [refMean, refComb, refSpread]
  rw [div_len, div_len, mean_shift]

end Cert.Math

end
-- ==== Proof.Math.Retrieve.lean ====
module

public import proofs.«01_k».proof.Proof.Math.Pool

/-! The retrieved memory and the first result: the kernel's blocks against the reference's sum. -/

@[expose] public section

set_option maxRecDepth 16384

noncomputable section

namespace Cert.Math

open Idealize.ShloMosaic Idealize.ShloMosaic.TcCoe
open Cert.KernelIdeal Cert.KernelIdeal.Gen Cert.KernelIdeal.Hand Cert.ReferenceIdeal.Hand

variable (m : (ℓ : Loc nD τ sig) → Buf (Elt Ideal) ℓ) (c : Dev nD)

/-- The reference's softmax at an index. -/
theorem refSoft_apply (y : Vec Ideal S4x128 .f32) (b : Fin 4) (i : Fin 128) :
    refSoft y (ix2 b i) = Ideal.div (Ideal.exp (y (ix2 b i) - Finset.fold max ⊥ (fun k => y (ix2 b k)) Finset.univ))
      (∑ j, Ideal.exp (y (ix2 b j) - Finset.fold max ⊥ (fun k => y (ix2 b k)) Finset.univ)) := by
  pointwise [refSoft, refExps]
  rw [lit_bot]
  simp only [max_bot_left]

/-- The scores against the memory's rows, at an index. -/
theorem refLogits_apply (p : Vec Ideal S4x2048 .f32) (w : Vec Ideal S128x2048 .f32) (v : Vec Ideal S128 .f32) (b : Fin 4) (i : Fin 128) :
    refLogits p w v (ix2 b i) = ∑ k, p (ix2 b k) * w (ix2 i k) + v (ix1 i) := by
  pointwise [refLogits]

/-- The scaled retrieved memory of the reference. -/
def addRef : Vec Ideal S4x2048 .f32 := fun y =>
  refRetr (refSoft (refLogits (refMean (hid m c)) (m ((c.tc : Thread nD τ).loc main_arg5)) (m ((c.tc : Thread nD τ).loc main_arg6))))
      (m ((c.tc : Thread nD τ).loc main_arg2)) y
    * refScale (refLayer (m ((c.tc : Thread nD τ).loc main_arg1))) (m ((c.tc : Thread nD τ).loc main_arg9)) ix0

/-- The kernel's scaled retrieved memory is the reference's. -/
theorem retrieved_eq (t : Fin grid0.N) :
    k0_pay9 (accAt m c 32) (scaleB m c t) (wrB m c t) (brB m c t) (bankB m c t) = addRef m c := by
  funext y
  idx_vars y
  unfold addRef
  unfold k0_pay9
  rw [pooled_eq]
  pointwise [refRetr]
  simp only [refSoft_apply, refLogits_apply, lit_bot, scaleB_apply m c t ix0, wrB_apply, brB_apply, bankB_apply]

/-- The addition the kernel broadcasts. -/
theorem addFin_apply (b : Fin 4) (h : Fin 2048) : addFin m c (ix3 b 0 h) = addRef m c (ix2 b h) := by
  unfold addFin
  pointwise [k0_pay10]
  rw [retrieved_eq]

/-- The accumulator of the second phase: the mean plus the scaled retrieved memory. -/
theorem accFin_apply (b : Fin 4) (h : Fin 2048) : accFin m c (ix2 b h) = refMean (hid m c) (ix2 b h) + addRef m c (ix2 b h) := by
  unfold accFin accVal
  pointwise [k0_pay48]
  rw [retrieved_eq, pooled_eq]

/-- A combined block at an index. -/
theorem combFin_apply (t : Fin grid0.N) (ht : 32 ≤ t.val) (b : Fin 4) (r : Fin 128) (h : Fin 2048) :
    combFin m c t (ix3 b r h) = hid m c (ix3 b ⟨(if t.val < 33 then 31 else t.val - 33) * 128 + r.val, by
      have := t.isLt; change t.val < 64 at this; split_ifs <;> omega⟩ h) + addRef m c (ix2 b h) := by
  have h64 : t.val < 64 := t.isLt
  unfold combFin
  by_cases h1 : 33 ≤ t.val ∧ t.val ≤ 52
  · rw [if_pos h1]
    pointwise [k0_pay5, k0_pay3]
    rw [hidB_apply, addFin_apply]
    refine congrArg (· + _) (congrArg (fun k => hid m c (ix3 b k h)) (Fin.ext ?_))
    show hidIx (pt (t.val - 33)).val * 128 + r.val = (if t.val < 33 then 31 else t.val - 33) * 128 + r.val
    rw [pt_val _ (by omega), hidIx]
    split_ifs <;> omega
  · rw [if_neg h1]
    pointwise [k0_pay4]
    rw [hidB_apply, addFin_apply]
    refine congrArg (· + _) (congrArg (fun k => hid m c (ix3 b k h)) (Fin.ext ?_))
    show hidIx t.val * 128 + r.val = (if t.val < 33 then 31 else t.val - 33) * 128 + r.val
    rw [hidIx]
    split_ifs <;> omega

/-- The reference's first result from the kernel's arguments. -/
abbrev out0 : Vec Ideal S4x4096x2048 .f32 :=
  refOut0 (hid m c) (m ((c.tc : Thread nD τ).loc main_arg1)) (m ((c.tc : Thread nD τ).loc main_arg2)) (m ((c.tc : Thread nD τ).loc main_arg5))
    (m ((c.tc : Thread nD τ).loc main_arg6)) (m ((c.tc : Thread nD τ).loc main_arg9))

/-- The reference's second result from the kernel's arguments. -/
abbrev out1 : Vec Ideal S128x2048 .f32 :=
  refOut1 (hid m c) (m ((c.tc : Thread nD τ).loc main_arg2)) (m ((c.tc : Thread nD τ).loc main_arg3)) (m ((c.tc : Thread nD τ).loc main_arg4))
    (m ((c.tc : Thread nD τ).loc main_arg7)) (m ((c.tc : Thread nD τ).loc main_arg8)) (out0 m c)

/-- **The kernel's first result is the reference's.** -/
theorem result0 : (dats m 0 c).arrAt 10 cfg0.N = out0 m c := by
  rw [out_array]
  funext y
  idx_vars y
  have e : outPt y1.val = outPt y1.val := rfl
  have ht : 32 ≤ (outPt y1.val).val := by
    unfold outPt; split_ifs <;> rw [pt_val _ (by omega)] <;> omega
  show combFin m c (outPt y1.val) (ix3 y0 ⟨y1.val % 128, _⟩ y2) = _
  rw [combFin_apply m c _ ht]
  unfold out0 refOut0
  pointwise [refComb, refSpread]
  refine congrArg₂ (· + ·) (congrArg (fun k => hid m c (ix3 y0 k y2)) (Fin.ext ?_)) rfl
  show (if (outPt y1.val).val < 33 then 31 else (outPt y1.val).val - 33) * 128 + y1.val % 128 = y1.val
  unfold outPt
  split_ifs with h1 h2 h2 <;> rw [pt_val _ (by omega)] at * <;> omega

/-- The mean of the first result is the accumulator of the second phase. -/
theorem mean_out0 : refMean (out0 m c) = accFin m c := by
  funext y
  idx_vars y
  rw [accFin_apply]
  exact mean_comb _ _ _ _ _

end Cert.Math

end
-- ==== Proof.Math.Order.lean ====
module

public import Idealize.ShloMosaic.Lib.SortFacts
public import Mathlib.Data.EReal.Basic
public import Mathlib.Data.Finset.Fold

/-! The order of a column's entries, the largest first and of equals the first; picking the first again and again. -/

@[expose] public section

namespace Cert.Math

open Idealize.ShloMosaic

variable {n : ℕ}

/-- Entry `j` comes before entry `r`: it is larger, or equal and earlier. -/
def Beats (s : Fin n → EReal) (j r : Fin n) : Prop := s r < s j ∨ (s j = s r ∧ j < r)

/-- No entry comes before itself. -/
theorem Beats.irrefl (s : Fin n → EReal) (j : Fin n) : ¬Beats s j j := by
  rintro (h | h)
  · exact lt_irrefl _ h
  · exact lt_irrefl _ h.2

/-- Of two entries at most one comes before the other. -/
theorem Beats.asymm {s : Fin n → EReal} {j r : Fin n} (h : Beats s j r) : ¬Beats s r j := by
  rcases h with h | ⟨e, h⟩
  · rintro (g | ⟨e, _⟩)
    · exact lt_asymm h g
    · exact absurd h (e ▸ lt_irrefl _)
  · rintro (g | ⟨_, g⟩)
    · exact absurd g (e ▸ lt_irrefl _)
    · exact lt_asymm h g

/-- Of two different entries one comes before the other. -/
theorem Beats.total (s : Fin n → EReal) {j r : Fin n} (h : j ≠ r) : Beats s j r ∨ Beats s r j := by
  rcases lt_trichotomy (s j) (s r) with g | g | g
  · exact .inr (.inl g)
  · rcases lt_or_gt_of_ne h with k | k
    · exact .inl (.inr ⟨g, k⟩)
    · exact .inr (.inr ⟨g.symm, k⟩)
  · exact .inl (.inl g)

/-- Coming before is transitive. -/
theorem Beats.trans {s : Fin n → EReal} {i j r : Fin n} (h : Beats s i j) (g : Beats s j r) : Beats s i r := by
  rcases h with h | ⟨e, h⟩ <;> rcases g with g | ⟨f, g⟩
  · exact .inl (g.trans h)
  · exact .inl (f ▸ h)
  · exact .inl (e ▸ g)
  · exact .inr ⟨e.trans f, h.trans g⟩

/-- The column with the first `k` entries of the order `σ` replaced by the least value. -/
noncomputable def masked (σ : Fin n → Fin n) (s : Fin n → EReal) (k : ℕ) (j : Fin n) : EReal :=
  open Classical in if ∃ q : Fin n, q.val < k ∧ σ q = j then ⊥ else s j

/-- With the first `k` entries of the order masked, the one entry nothing comes before is the `k`-th. -/
theorem unbeaten_masked {σ : Fin n → Fin n} {s : Fin n → EReal} (hσ : Function.Bijective σ) (ho : ∀ p q, p < q → Beats s (σ p) (σ q))
    (hs : ∀ j, ⊥ < s j) (k : Fin n) (r : Fin n) : (∀ j, ¬Beats (masked σ s k) j r) ↔ σ k = r := by
  have lo : ∀ q : Fin n, q.val < k.val → masked σ s k (σ q) = ⊥ := fun q h => if_pos ⟨q, h, rfl⟩
  have hi : ∀ q : Fin n, k.val ≤ q.val → masked σ s k (σ q) = s (σ q) := fun q h => if_neg (by
    rintro ⟨p, hp, e⟩
    have := hσ.1 e
    subst this
    omega)
  constructor
  · intro h
    obtain ⟨q, rfl⟩ := hσ.2 r
    rcases lt_trichotomy q k with g | g | g
    · refine absurd (.inl ?_) (h (σ k))
      rw [lo q g, hi k le_rfl]
      exact hs _
    · rw [g]
    · refine absurd ?_ (h (σ k))
      have b := ho k q g
      unfold Beats at b ⊢
      rwa [hi k le_rfl, hi q g.le]
  · rintro rfl j b
    obtain ⟨q, rfl⟩ := hσ.2 j
    by_cases g : q.val < k.val
    · unfold Beats at b
      rw [lo q g, hi k le_rfl] at b
      rcases b with b | ⟨b, _⟩
      · exact not_lt_bot b
      · exact (hs _).ne b
    · have b' : Beats s (σ q) (σ k) := by
        unfold Beats at b ⊢
        rwa [hi q (by omega), hi k le_rfl] at b
      rcases (show k = q ∨ k < q from by rcases eq_or_lt_of_le (not_lt.mp g) with e | e; exacts [.inl (Fin.ext e), .inr e]) with e | e
      · exact Beats.irrefl s _ (e ▸ b')
      · exact (ho k q e).asymm b'

/-- Masking the `k`-th entry of the order next. -/
theorem masked_succ {σ : Fin n → Fin n} {s : Fin n → EReal} (k : Fin n) (j : Fin n) :
    masked σ s (k.val + 1) j = open Classical in if σ k = j then ⊥ else masked σ s k j := by
  unfold masked
  by_cases h : σ k = j
  · rw [if_pos h, if_pos ⟨k, Nat.lt_succ_self _, h⟩]
  · rw [if_neg h]
    refine if_congr ⟨?_, ?_⟩ rfl rfl
    · rintro ⟨q, hq, e⟩
      refine ⟨q, ?_, e⟩
      have : q ≠ k := fun g => h (g ▸ e)
      have : q.val ≠ k.val := fun g => this (Fin.ext g)
      omega
    · rintro ⟨q, hq, e⟩
      exact ⟨q, by omega, e⟩

/-- The largest value of a column, read at an entry holding it. -/
theorem eq_fold_max (s : Fin n → EReal) (r : Fin n) : s r = Finset.fold max ⊥ s Finset.univ ↔ ∀ j, s j ≤ s r := by
  constructor
  · intro h j
    rw [h]
    exact (Finset.le_fold_max _).2 (.inr ⟨j, Finset.mem_univ _, le_rfl⟩)
  · intro h
    exact le_antisymm ((Finset.le_fold_max _).2 (.inr ⟨r, Finset.mem_univ _, le_rfl⟩)) ((Finset.fold_max_le _).2 ⟨bot_le, fun j _ => h j⟩)

/-- The first of the entries holding the largest value is the one nothing comes before. -/
theorem first_largest (s : Fin n → EReal) (r : Fin n) :
    ((∀ j, s j ≤ s r) ∧ ∀ i, i < r → ¬∀ j, s j ≤ s i) ↔ ∀ j, ¬Beats s j r := by
  constructor
  · rintro ⟨h, g⟩ j (b | ⟨e, b⟩)
    · exact absurd (h j) (not_le.mpr b)
    · exact g j b fun i => e ▸ h i
  · intro h
    have top : ∀ j, s j ≤ s r := fun j => not_lt.mp fun b => h j (.inl b)
    exact ⟨top, fun i hi g => h i (.inr ⟨le_antisymm (top i) (g r), hi⟩)⟩

/-- The order a stable sort by "larger first" puts the entries in. -/
noncomputable def order (s : Fin n → EReal) : Fin n → Fin n := open Classical in sortedFrom fun a b => decide (s b < s a)

/-- Two relations that agree on later entries against earlier ones sort a list alike. -/
theorem stableSort_agree {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- The order is the stable sort by which entry comes before which. -/
theorem order_eq (s : Fin n → EReal) : order s = open Classical in sortedFrom fun a b => decide (Beats s a b) := by
  classical
  have e : sortPositions n (fun a b => decide (s b < s a)) = sortPositions n fun a b => decide (Beats s a b) := by
    unfold sortPositions
    refine stableSort_agree _ _ _ ((List.pairwise_lt_finRange n).imp fun {a b} h => ?_)
    refine decide_eq_decide.mpr ⟨.inl, fun g => ?_⟩
    rcases g with g | ⟨_, g⟩
    · exact g
    · exact absurd h (lt_asymm g)
  funext k
  unfold order sortedFrom
  simp only [List.get_eq_getElem]
  exact List.getElem_of_eq e _

/-- The order is a permutation of the places. -/
theorem order_bijective (s : Fin n → EReal) : Function.Bijective (order s) := by
  rw [order_eq]
  exact ⟨sortedFrom_injective _, sortedFrom_surjective _⟩

/-- The sort's order is the order of the entries. -/
theorem order_beats (s : Fin n → EReal) (p q : Fin n) (h : p < q) : Beats s (order s p) (order s q) := by
  classical
  have ni : ¬Beats s (order s q) (order s p) := by
    rw [order_eq]
    refine of_decide_eq_false (sortedFrom_noInversion (fun a b => decide (Beats s a b)) _ (fun a b g => ?_) (fun a b g => ?_) (fun a b c g k => ?_) p q h)
    · exact decide_eq_false (of_decide_eq_true g).asymm
    · exact decide_eq_true (of_decide_eq_true g)
    · have g := of_decide_eq_false g
      have k := of_decide_eq_false k
      refine decide_eq_false fun ac => ?_
      rcases eq_or_ne a b with e | e
      · exact k (e ▸ ac)
      · rcases Beats.total s e with t | t
        · exact g t
        · exact k (t.trans ac)
  exact (Beats.total s ((order_bijective s).1.ne h.ne)).resolve_right ni

/-- A row number read signed. -/
theorem toInt_row {k : ℕ} (h : k < 2 ^ 31) : (BitVec.ofNat 32 k).toInt = k := by
  rw [BitVec.toInt_eq_toNat_of_lt] <;> rw [BitVec.toNat_ofNat] <;> omega

end Cert.Math
-- ==== Proof.Math.Rounds.lean ====
module

public import proofs.«01_k».proof.Proof.KI.Values
public import proofs.«01_k».proof.Proof.Math.Reals
public import proofs.«01_k».proof.Proof.Math.Order
public import Idealize.ShloMosaic.Lib.Pointwise
public import Idealize.ShloMosaic.Lib.SortNet.Extract

/-! The sixteen selection rounds of the kernel: each picks, in every column, the first row of the order, and masks it. -/

@[expose] public section

set_option maxRecDepth 16384

noncomputable section

namespace Cert.Math

open Idealize.ShloMosaic
open Cert.KernelIdeal Cert.KernelIdeal.Gen Cert.KernelIdeal.Hand

section Generic

variable {F : FTy → Type} [FloatOps F]

/-- The rows holding their column's largest value. -/
def topOf (s : FVec F S128x4 .f32) : IVec S128x4 1 :=
  cmpf .oeq s (broadcastTo S128x4 (shapeCast S1x4 (multiReduction .maximumf [0] S4 s 0xFF800000#32 reduces_S128x4_S4 (.inl rfl) rfl) shapeCasts_S4_S1x4)
    broadcasts_S1x4_S128x4)

/-- The first marked row of every column. -/
def hitOf (p : IVec S128x4 1) : IVec S128x4 1 :=
  cmpi .eq rowIota (broadcastTo S128x4 (shapeCast S1x4 (multiReductionI .minsi [0] S4 (select p rowIota (broadcast S128x4 128#32)) 2147483647#32
    reduces_S128x4_S4 rfl) shapeCasts_S4_S1x4) broadcasts_S1x4_S128x4)

/-- The table before round `k`. -/
def tab (s : FVec F S128x4 .f32) : ℕ → FVec F S128x4 .f32
  | 0 => s
  | k + 1 => select (hitOf (topOf (tab s k))) (broadcast S128x4 (Scalar.ofBits .f32 0xFF800000#32)) (tab s k)

/-- The rows the first `k` rounds pick. -/
def sel (s : FVec F S128x4 .f32) : ℕ → IVec S128x4 1
  | 0 => broadcast S128x4 0#1
  | k + 1 => ori (sel s k) (hitOf (topOf (tab s k)))

/-- The largest marked column of every row, or minus one. -/
def lastOf (p : IVec S128x4 1) : IVec S128x1 32 :=
  shapeCast S128x1 (shapeCast S128x1 (multiReductionI .maxsi [1] S128 (select p (iota .tc S128x4 32 [1] iota_S128x4_d1_w32) (broadcast S128x4 4294967295#32))
    2147483648#32 reduces_S128x4_S128 rfl) shapeCasts_S128_S128x1) shapeCasts_S128x1_S128x1

/-- The first four rounds. -/
theorem rounds_three (v : FVec F S128x4 .f32) (u : FVec F S4 .f32) :
    k0_pay17 v u = tab (k0_pay13 v u) 2 ∧ k0_pay18 v u = hitOf (topOf (tab (k0_pay13 v u) 2)) ∧ k0_pay19 v u = sel (k0_pay13 v u) 3 := ⟨rfl, rfl, rfl⟩

/-- The next three. -/
theorem rounds_six (s : FVec F S128x4 .f32) :
    k0_pay26 rowIota (tab s 2) (hitOf (topOf (tab s 2))) (sel s 3) = sel s 6 ∧ k0_pay27 rowIota (tab s 2) (hitOf (topOf (tab s 2))) = tab s 6
      ∧ k0_pay28 rowIota (tab s 2) (hitOf (topOf (tab s 2))) = topOf (tab s 6) := ⟨rfl, rfl, rfl⟩

/-- The next four. -/
theorem rounds_ten (s : FVec F S128x4 .f32) :
    k0_pay34 rowIota (tab s 6) (topOf (tab s 6)) 128#32 = tab s 9 ∧ k0_pay35 rowIota (tab s 6) (topOf (tab s 6)) 128#32 = hitOf (topOf (tab s 9))
      ∧ k0_pay36 rowIota (sel s 6) (tab s 6) (topOf (tab s 6)) 128#32 = sel s 10 := ⟨rfl, rfl, rfl⟩

/-- The next three. -/
theorem rounds_thirteen (s : FVec F S128x4 .f32) :
    k0_pay43 rowIota (tab s 9) (hitOf (topOf (tab s 9))) (sel s 10) (Scalar.ofBits .f32 0xFF800000#32) = sel s 13
      ∧ k0_pay44 rowIota (tab s 9) (hitOf (topOf (tab s 9))) (Scalar.ofBits .f32 0xFF800000#32) = tab s 13
      ∧ k0_pay45 rowIota (tab s 9) (hitOf (topOf (tab s 9))) (Scalar.ofBits .f32 0xFF800000#32) = topOf (tab s 13) := ⟨rfl, rfl, rfl⟩

/-- The last three, and the largest column. -/
theorem rounds_sixteen (s : FVec F S128x4 .f32) : k0_pay47 rowIota (sel s 13) (tab s 13) (topOf (tab s 13)) k0_pay46 = lastOf (sel s 16) := rfl

/-- The winners are the largest columns of what sixteen rounds pick in the softmax. -/
theorem winVal_eq (a : Vec F S4x2048 .f32) (x2 : Vec F S128x2048 .f32) (x3 : Vec F S128x1 .f32) :
    winVal a x2 x3 = lastOf (sel (k0_pay13 (k0_pay11 a x2 x3) (k0_pay12 a x2 x3)) 16) := by
  unfold winVal w191 w201 w202 w152 w156 w150 w100 w110 w111 w63 w64
  rw [(rounds_three _ _).1, (rounds_three _ _).2.1, (rounds_three _ _).2.2, (rounds_six _).1, (rounds_six _).2.1, (rounds_six _).2.2,
    (rounds_ten _).1, (rounds_ten _).2.1, (rounds_ten _).2.2, (rounds_thirteen _).1, (rounds_thirteen _).2.1, (rounds_thirteen _).2.2, rounds_sixteen]

end Generic

/-- The signed minimum of words is at least `c` when each of them is. -/
theorem le_fold_minsi {n : ℕ} (c b : BitVec 32) (f : Fin n → BitVec 32) :
    c.toInt ≤ (Finset.fold IntOp.minsi b f Finset.univ).toInt ↔ c.toInt ≤ b.toInt ∧ ∀ x, c.toInt ≤ (f x).toInt := by
  rw [Finset.fold_op_rel_iff_and (op := IntOp.minsi) (r := fun x y : BitVec 32 => x.toInt ≤ y.toInt) (fun {x y z} => by
    rw [SortNet.toInt_minsi]; exact le_min_iff)]
  simp only [Finset.mem_univ, true_imp_iff]

/-- The signed minimum of the marked row numbers is the first marked row. -/
theorem eq_first_marked (p : Fin 128 → BitVec 1) (r : Fin 128) :
    BitVec.ofNat 32 r.val = Finset.fold IntOp.minsi 2147483647#32 (fun x => Scalar.select (p x) (BitVec.ofNat 32 x.val) 128#32) Finset.univ
      ↔ p r = 1#1 ∧ ∀ i, i < r → ¬p i = 1#1 := by
  set M := Finset.fold IntOp.minsi 2147483647#32 (fun x : Fin 128 => Scalar.select (p x) (BitVec.ofNat 32 x.val) 128#32) Finset.univ with hM
  have key : ∀ k : ℕ, k ≤ 128 → ((k : ℤ) ≤ M.toInt ↔ ∀ x : Fin 128, p x = 1#1 → k ≤ x.val) := by
    intro k hk
    rw [← toInt_row (show k < 2 ^ 31 by omega), hM, le_fold_minsi]
    constructor
    · intro h x hx
      have hb := h.2 x
      rw [hx, show Scalar.select (1#1) (BitVec.ofNat 32 x.val) 128#32 = BitVec.ofNat 32 x.val from rfl, toInt_row (by omega), toInt_row (by omega)] at hb
      omega
    · intro h
      refine ⟨by rw [toInt_row (by omega)]; change (k : ℤ) ≤ 2147483647; omega, fun x => ?_⟩
      rcases BitVec.eq_zero_or_eq_one (p x) with e | e <;> rw [e]
      · rw [toInt_row (by omega)]
        change (k : ℤ) ≤ 128
        omega
      · rw [show Scalar.select (1#1) (BitVec.ofNat 32 x.val) 128#32 = BitVec.ofNat 32 x.val from rfl, toInt_row (by omega), toInt_row (by omega)]
        have := h x e
        omega
  constructor
  · intro h
    have hr : M.toInt = r.val := by rw [← h, toInt_row (by omega)]
    have all := (key r.val (by omega)).1 (by omega)
    refine ⟨by_contra fun hp => ?_, fun i hi hp => by have := all i hp; omega⟩
    have := (key (r.val + 1) (by omega)).2 fun x hx => by
      have := all x hx
      have : x.val ≠ r.val := fun e => hp (Fin.ext e ▸ hx)
      omega
    push_cast at this
    omega
  · rintro ⟨hp, hl⟩
    have lo := (key r.val (by omega)).2 fun x hx => not_lt.mp fun g => hl x g hx
    have hi : ¬((r.val + 1 : ℕ) : ℤ) ≤ M.toInt := fun g => by
      have := (key (r.val + 1) (by omega)).1 g r hp
      omega
    refine BitVec.eq_of_toInt_eq ?_
    rw [toInt_row (by omega)]
    push_cast at hi
    omega

/-- A bit made of a truth value. -/
theorem ofBool_one (p : Bool) : BitVec.ofBool p = 1#1 ↔ p = true := by cases p <;> decide

/-- The rows a round picks are those nothing in their column comes before. -/
theorem hit_apply (t : FVec Ideal S128x4 .f32) (r : Fin 128) (b : Fin 4) :
    hitOf (topOf t) (ix2 r b) = 1#1 ↔ ∀ j, ¬Beats (fun j => t (ix2 j b)) j r := by
  rw [← first_largest]
  have e : ∀ i : Fin 128, topOf t (ix2 i b) = 1#1 ↔ ∀ j, t (ix2 j b) ≤ t (ix2 i b) := by
    intro i
    rw [← eq_fold_max (fun j => t (ix2 j b)) i]
    pointwise [topOf]
    rw [lit_bot, ofBool_one, decide_eq_true_iff]
  rw [← e r]
  simp only [← e]
  rw [← eq_first_marked (fun i => topOf t (ix2 i b)) r]
  pointwise [hitOf, rowIota]
  exact (ofBool_one _).trans beq_iff_eq

/-- The table before round `k`: the first `k` rows of every column's order masked. -/
theorem tab_apply (s : FVec Ideal S128x4 .f32) (hs : ∀ r b, ⊥ < s (ix2 r b)) (k : ℕ) (hk : k ≤ 128) (r : Fin 128) (b : Fin 4) :
    tab s k (ix2 r b) = masked (order fun j => s (ix2 j b)) (fun j => s (ix2 j b)) k r := by
  induction k generalizing r with
  | zero => exact (if_neg fun ⟨q, h, _⟩ => absurd h (by omega)).symm
  | succ k ih =>
    have hit := hit_apply (tab s k) r b
    rw [show (fun j => tab s k (ix2 j b)) = _ from funext fun j => ih (by omega) j,
      unbeaten_masked (order_bijective _) (order_beats _) (fun j => hs j b) ⟨k, by omega⟩ r] at hit
    rw [masked_succ ⟨k, by omega⟩, ← ih (by omega)]
    show Scalar.select (hitOf (topOf (tab s k)) (ix2 r b)) (Ideal.ofBits .f32 0xFF800000#32) (tab s k (ix2 r b)) = _
    rw [lit_bot]
    by_cases h : order (fun j => s (ix2 j b)) ⟨k, by omega⟩ = r
    · rw [if_pos h, hit.2 h]
      rfl
    · rw [if_neg h, (BitVec.eq_zero_or_eq_one _).resolve_right fun g => h (hit.1 g)]
      rfl

/-- The rows the first `k` rounds pick: the first `k` of every column's order. -/
theorem sel_apply (s : FVec Ideal S128x4 .f32) (hs : ∀ r b, ⊥ < s (ix2 r b)) (k : ℕ) (hk : k ≤ 128) (r : Fin 128) (b : Fin 4) :
    sel s k (ix2 r b) = 1#1 ↔ ∃ q : Fin 128, q.val < k ∧ order (fun j => s (ix2 j b)) q = r := by
  induction k with
  | zero => exact ⟨fun h => absurd (show (0#1 : BitVec 1) = 1#1 from h) (by decide), fun ⟨q, h, _⟩ => absurd h (by omega)⟩
  | succ k ih =>
    have hit := hit_apply (tab s k) r b
    rw [show (fun j => tab s k (ix2 j b)) = _ from funext fun j => tab_apply s hs k (by omega) j b,
      unbeaten_masked (order_bijective _) (order_beats _) (fun j => hs j b) ⟨k, by omega⟩ r] at hit
    have or1 : ∀ x y : BitVec 1, IntOp.ori x y = 1#1 ↔ x = 1#1 ∨ y = 1#1 := by decide
    refine (or1 _ _).trans ?_
    rw [ih (by omega), hit]
    constructor
    · rintro (⟨q, h, e⟩ | e)
      · exact ⟨q, by omega, e⟩
      · exact ⟨_, Nat.lt_succ_self _, e⟩
    · rintro ⟨q, h, e⟩
      rcases Nat.lt_succ_iff_lt_or_eq.mp h with g | g
      · exact .inl ⟨q, g, e⟩
      · exact .inr ((congrArg _ (Fin.ext g.symm)).trans e)

/-- The rows written by the last of four columns that marks them. -/
theorem lastOf_apply {α : Type} (p : IVec S128x4 1) (r : Fin 128) (u : Fin 4 → α) (v : α) :
    Scalar.select (IntOp.cmpi .eq (lastOf p (ix2 r 0)) 3#32) (u 3) (Scalar.select (IntOp.cmpi .eq (lastOf p (ix2 r 0)) 2#32) (u 2)
      (Scalar.select (IntOp.cmpi .eq (lastOf p (ix2 r 0)) 1#32) (u 1) (Scalar.select (IntOp.cmpi .eq (lastOf p (ix2 r 0)) 0#32) (u 0) v)))
    = if p (ix2 r 3) = 1#1 then u 3 else if p (ix2 r 2) = 1#1 then u 2 else if p (ix2 r 1) = 1#1 then u 1 else if p (ix2 r 0) = 1#1 then u 0 else v := by
  have e : lastOf p (ix2 r 0) = IntOp.maxsi (Scalar.select (p (ix2 r 0)) 0#32 4294967295#32) (IntOp.maxsi (Scalar.select (p (ix2 r 1)) 1#32 4294967295#32)
      (IntOp.maxsi (Scalar.select (p (ix2 r 2)) 2#32 4294967295#32) (IntOp.maxsi (Scalar.select (p (ix2 r 3)) 3#32 4294967295#32) 2147483648#32))) := by
    pointwise [lastOf]
    rfl
  rw [e]
  rcases BitVec.eq_zero_or_eq_one (p (ix2 r 0)) with h0 | h0 <;> rcases BitVec.eq_zero_or_eq_one (p (ix2 r 1)) with h1 | h1 <;>
    rcases BitVec.eq_zero_or_eq_one (p (ix2 r 2)) with h2 | h2 <;> rcases BitVec.eq_zero_or_eq_one (p (ix2 r 3)) with h3 | h3 <;>
    rw [h0, h1, h2, h3] <;> rfl

end Cert.Math

end
-- ==== Proof.Math.Alloc.lean ====
module

public import proofs.«01_k».proof.Proof.Math.Retrieve
public import proofs.«01_k».proof.Proof.Math.Rounds

/-! The allocation weights of both programs, and the rows the kernel's winners hold. -/

@[expose] public section

set_option maxRecDepth 16384

noncomputable section

namespace Cert.Math

open Idealize.ShloMosaic Idealize.ShloMosaic.TcCoe
open Cert.KernelIdeal Cert.KernelIdeal.Gen Cert.KernelIdeal.Hand Cert.ReferenceIdeal.Hand

variable (m : (ℓ : Loc nD τ sig) → Buf (Elt Ideal) ℓ) (c : Dev nD)

/-- The reference's allocation scores. -/
abbrev allocScores : Vec Ideal S4x128 .f32 :=
  refLogits (refMean (hid m c)) (m ((c.tc : Thread nD τ).loc main_arg3)) (m ((c.tc : Thread nD τ).loc main_arg4))

/-- The kernel's allocation weights are the reference's, transposed. -/
theorem weights_eq (r : Fin 128) (b : Fin 4) :
    k0_pay13 (k0_pay11 (accAt m c 32) (waB m c (pt 31)) (baB m c (pt 31))) (k0_pay12 (accAt m c 32) (waB m c (pt 31)) (baB m c (pt 31))) (ix2 r b)
      = refSoft (allocScores m c) (ix2 b r) := by
  have e : ∀ i : Fin 128, k0_pay11 (accAt m c 32) (waB m c (pt 31)) (baB m c (pt 31)) (ix2 i b) = allocScores m c (ix2 b i) := by
    intro i
    unfold allocScores
    rw [refLogits_apply]
    unfold k0_pay11
    rw [pooled_eq]
    pointwise []
    rw [baB_apply]
    refine congrArg (· + _) (Finset.sum_congr rfl fun x _ => ?_)
    rw [waB_apply, mul_comm]
  have g : k0_pay12 (accAt m c 32) (waB m c (pt 31)) (baB m c (pt 31)) (ix1 b) = Finset.fold max ⊥ (fun k => allocScores m c (ix2 b k)) Finset.univ := by
    unfold k0_pay12
    generalize k0_pay11 (accAt m c 32) (waB m c (pt 31)) (baB m c (pt 31)) = T at e
    pointwise []
    rw [lit_bot]
    simp only [e]
  rw [refSoft_apply]
  generalize k0_pay11 (accAt m c 32) (waB m c (pt 31)) (baB m c (pt 31)) = T at e
  generalize k0_pay12 (accAt m c 32) (waB m c (pt 31)) (baB m c (pt 31)) = U at g
  unfold k0_pay13
  pointwise []
  simp only [e, g]

/-- The exponential of a finite value less itself. -/
theorem exp_sub_self (M : EReal) (ht : M ≠ ⊤) (hb : M ≠ ⊥) : Ideal.exp (M - M) = 1 := by
  lift M to ℝ using ⟨ht, hb⟩
  rw [← EReal.coe_sub, sub_self]
  show ((Real.exp 0 : ℝ) : EReal) = 1
  rw [Real.exp_zero]
  rfl

/-- A softmax weight is above the least value when the largest score is finite. -/
theorem weight_above (y : Vec Ideal S4x128 .f32) (b : Fin 4) (hb : Finset.fold max ⊥ (fun k => y (ix2 b k)) Finset.univ ≠ ⊥)
    (ht : Finset.fold max ⊥ (fun k => y (ix2 b k)) Finset.univ ≠ ⊤) (r : Fin 128) : ⊥ < refSoft y (ix2 b r) := by
  rw [refSoft_apply]
  set M := Finset.fold max ⊥ (fun k => y (ix2 b k)) Finset.univ with hM
  have ge0 : ∀ x : EReal, 0 ≤ Ideal.exp x := by
    intro x
    induction x with
    | bot => exact le_rfl
    | top => exact le_top
    | coe x => exact EReal.coe_nonneg.mpr (Real.exp_pos x).le
  obtain ⟨q, hq⟩ : ∃ q : Fin 128, y (ix2 b q) = M := by
    have h : M ≤ M := le_rfl
    nth_rewrite 2 [hM] at h
    rcases (Finset.le_fold_max _).1 h with h | ⟨q, _, h⟩
    · exact absurd (le_bot_iff.mp h) hb
    · exact ⟨q, le_antisymm ((Finset.le_fold_max _).2 (.inr ⟨q, Finset.mem_univ _, le_rfl⟩)) h⟩
  have one : Ideal.exp (y (ix2 b q) - M) = 1 := by
    rw [hq]
    exact exp_sub_self M ht hb
  have pos : 0 < ∑ j, Ideal.exp (y (ix2 b j) - M) :=
    lt_of_lt_of_le (one ▸ zero_lt_one) (Finset.single_le_sum (f := fun j => Ideal.exp (y (ix2 b j) - M)) (fun j _ => ge0 _) (Finset.mem_univ q))
  unfold Ideal.div
  rw [if_neg pos.ne']
  refine lt_of_lt_of_le EReal.bot_lt_zero (mul_nonneg (ge0 _) ?_)
  exact EReal.inv_nonneg_of_nonneg pos.le

/-- The rows batch `b` writes: the first sixteen of the order of its weights. -/
def Top (b : Fin 4) (r : Fin 128) : Prop := ∃ q : Fin 128, q.val < 16 ∧ order (fun j => refSoft (allocScores m c) (ix2 b j)) q = r

/-- Every batch's largest allocation score is finite. -/
def Finite : Prop := ∀ b : Fin 4, Finset.fold max ⊥ (fun k => allocScores m c (ix2 b k)) Finset.univ ≠ ⊥
  ∧ Finset.fold max ⊥ (fun k => allocScores m c (ix2 b k)) Finset.univ ≠ ⊤

/-- The kernel's new bank at an entry: the last batch whose first sixteen hold the row, or the old entry. -/
theorem bankFin_apply (hf : Finite m c) (r : Fin 128) (h : Fin 2048) :
    bankFin m c (ix2 r h) = open Classical in
      if Top m c 3 r then refUpd (updFin m c) (ix2 3 h) else if Top m c 2 r then refUpd (updFin m c) (ix2 2 h)
      else if Top m c 1 r then refUpd (updFin m c) (ix2 1 h) else if Top m c 0 r then refUpd (updFin m c) (ix2 0 h)
      else m ((c.tc : Thread nD τ).loc main_arg2) (ix2 r h) := by
  have above : ∀ i b, ⊥ < k0_pay13 (k0_pay11 (accAt m c 32) (waB m c (pt 31)) (baB m c (pt 31)))
      (k0_pay12 (accAt m c 32) (waB m c (pt 31)) (baB m c (pt 31))) (ix2 i b) := by
    intro i b
    rw [weights_eq]
    exact weight_above _ b (hf b).1 (hf b).2 i
  have top : ∀ b, sel (k0_pay13 (k0_pay11 (accAt m c 32) (waB m c (pt 31)) (baB m c (pt 31)))
      (k0_pay12 (accAt m c 32) (waB m c (pt 31)) (baB m c (pt 31)))) 16 (ix2 r b) = 1#1 ↔ Top m c b r := by
    intro b
    rw [sel_apply _ above 16 (by decide) r b]
    simp only [weights_eq]
    rfl
  have hu : ∀ b : Fin 4, Ideal.div 1 (1 + Ideal.exp (0 - updFin m c (ix2 b h))) = refUpd (updFin m c) (ix2 b h) := by
    intro b
    pointwise [refUpd]
    rw [zero_sub]
  unfold bankFin winFin
  rw [winVal_eq]
  generalize sel (k0_pay13 (k0_pay11 (accAt m c 32) (waB m c (pt 31)) (baB m c (pt 31)))
      (k0_pay12 (accAt m c 32) (waB m c (pt 31)) (baB m c (pt 31)))) 16 = S at top
  generalize hw : lastOf S = L
  pointwise [k0_pay7]
  rw [← hw, bankB_apply]
  refine (lastOf_apply S r (fun b => Ideal.div 1 (1 + Ideal.exp (0 - updFin m c (ix2 b h)))) _).trans ?_
  simp only [hu]
  classical
  exact if_congr (top 3) rfl (if_congr (top 2) rfl (if_congr (top 1) rfl (if_congr (top 0) rfl rfl)))

end Cert.Math

end
-- ==== Proof.Math.Scatter.lean ====
module

public import proofs.«01_k».proof.Proof.Ref.Stages
public import proofs.«01_k».proof.Proof.Math.Order
public import Idealize.ShloMosaic.Lib.Pointwise
public import Idealize.ShloMosaic.Lib.Routing.OpsPair
public import Idealize.ShloMosaic.Lib.Routing.OpsSet

/-! The reference's selected rows, and its scatter of the updates to them: the last batch that selects a row writes it. -/

@[expose] public section

set_option maxRecDepth 16384

noncomputable section

namespace Cert.Math

open Idealize.ShloMosaic
open Cert.ReferenceIdeal Cert.ReferenceIdeal.Hand

/-- The carried operand of a sort of two, read at an index: its entry at the place the sort puts there. -/
theorem sort2_snd (s : Shape) (d : ℕ) (hd : d < s.rank) {α β : Type} (cmp : α × β → α × β → BitVec 1) (x : s.Idx → α) (y : s.Idx → β) (j : s.Idx) :
    (Host.sort2 s d cmp x y).2 j
      = y (j.along ⟨d, hd⟩ (sortedFrom (fun k k' => cmp (x (j.along ⟨d, hd⟩ k), y (j.along ⟨d, hd⟩ k)) (x (j.along ⟨d, hd⟩ k'), y (j.along ⟨d, hd⟩ k')) == 1#1)
          (j ⟨d, hd⟩))) := by
  unfold Host.sort2
  rw [dif_pos hd]

/-- The places of the greatest elements, read at an index: the place the sort puts there. -/
theorem topK_snd (s t : Shape) (d : ℕ) (hd : d < s.rank) {α : Type} (gt : α → α → BitVec 1) (x : s.Idx → α) (h : s.Slices (fun _ => 0) t) (i : t.Idx) (j : s.Idx)
    (hj : ∀ z : IVec s 32, extractStridedSlice t (fun _ => 0) z h i = z j) :
    (Host.topK t d gt x h).2 i
      = BitVec.ofNat 32 (sortedFrom (fun k k' => gt (x (j.along ⟨d, hd⟩ k)) (x (j.along ⟨d, hd⟩ k')) == 1#1) (j ⟨d, hd⟩)).val := by
  unfold Host.topK
  dsimp only
  rw [hj, sort2_snd s d hd, dif_pos hd]
  unfold iotaInDim Shape.Idx.along
  rw [Function.update_self]

/-- The `p`-th row batch `b` selects: the `p`-th of the order of its weights. -/
theorem topK_apply (y : FVec Ideal S4x128 .f32) (h : S4x128.Slices (fun _ => 0) S4x16) (b : Fin 4) (p : Fin 16) :
    (Host.topK S4x16 1 (FloatOps.cmpfTotal .gt) y h).2 (ix2 b p) = BitVec.ofNat 32 (order (fun j => y (ix2 b j)) ⟨p.val, by omega⟩).val := by
  have hd : 1 < S4x128.rank := by decide
  have along : ∀ j k : Fin 128, (ix2 b j : S4x128.Idx).along ⟨1, hd⟩ k = ix2 b k := by
    intro j k
    funext a
    match a with
    | ⟨0, _⟩ => rfl
    | ⟨1, _⟩ => rfl
  have gt : ∀ u v : EReal, ((FloatOps.cmpfTotal (F := Ideal) (φ := .f32) .gt u v) == 1#1) = decide (v < u) := by
    intro u v
    show (BitVec.ofBool (decide (v < u)) == 1#1) = decide (v < u)
    cases decide (v < u) <;> rfl
  rw [topK_snd S4x128 S4x16 1 hd (FloatOps.cmpfTotal .gt) y h (ix2 b p) (ix2 b ⟨p.val, by omega⟩) fun z => by pointwise []]
  unfold order
  refine congrArg (fun f : Fin 128 → Fin 128 → Bool => BitVec.ofNat 32 (sortedFrom f ⟨p.val, by omega⟩).val) (funext₂ fun k k' => ?_)
  refine (congrArg₂ (fun u v : EReal => FloatOps.cmpfTotal (F := Ideal) (φ := .f32) .gt u v == 1#1) (congrArg y (along ⟨p.val, by omega⟩ k))
    (congrArg y (along ⟨p.val, by omega⟩ k'))).trans ((gt _ _).trans (decide_eq_decide.2 Iff.rfl))

/-- The rows all batches select, one batch after another. -/
theorem refRows_apply (y : Vec Ideal S4x128 .f32) (b : Fin 4) (p : Fin 16) (q : Fin 64) (hq : q.val = b.val * 16 + p.val) :
    refRows y (ix1 q) = BitVec.ofNat 32 (order (fun j => y (ix2 b j)) ⟨p.val, by omega⟩).val := by
  rw [← topK_apply y (by decide) b p]
  pointwise [refRows]
  exact congrArg₂ (fun i k => (Host.topK S4x16 1 (FloatOps.cmpfTotal (F := Ideal) (φ := .f32) .gt) y Gen.sliceFits_S4x128_S4x16).2 (ix2 i k))
    (Fin.ext (show q.val / 16 = b.val by omega)) (Fin.ext (show q.val % 16 = p.val by omega))

/-- The update rows, one batch after another. -/
theorem updates_apply (u : Vec Ideal S4x2048 .f32) (b : Fin 4) (p : Fin 16) (q : Fin 64) (hq : q.val = b.val * 16 + p.val) (h : Fin 2048) :
    (shapeCast S64x2048 (broadcastInDim S4x16x2048 ![0, 2] Gen.facts.bcast_S4x2048_S4x16x2048_0_2 u) Gen.facts.shapeCasts_S4x16x2048_S64x2048 : FVec Ideal S64x2048 .f32)
      (ix2 q h) = u (ix2 b h) := by
  pointwise []
  exact congrArg (fun i => u (ix2 i h)) (Fin.ext (show q.val / 16 = b.val by omega))

/-- The index words. -/
theorem refIdx_apply (y : Vec Ideal S64 .i32) (q : Fin 64) (j : Fin 128) (hy : y (ix1 q) = BitVec.ofNat 32 j.val) :
    refIdx (F := Ideal) y (ix2 q 0) = BitVec.ofNat 32 j.val := by
  pointwise [refIdx]
  rw [hy]
  exact Routing.wrap_of_lt _ _ (by rw [BitVec.toNat_ofNat]; omega)

/-- Where an update lands. -/
theorem lands (idx : IVec S64x1 32) (q : Fin 64) (h' : Fin 2048) (r : Fin 128) (h : Fin 2048) :
    scatter_S128x2048_S64x1_S64x2048_1_0_0_1.resultIdx? (ix2 q h') idx = some (ix2 r h) ↔ (idx (ix2 q 0)).toInt = r.val ∧ h' = h := by
  rw [Routing.resultIdx?_eq_some]
  have w0 : scatter_S128x2048_S64x1_S64x2048_1_0_0_1.window (ix2 q h') 0 = 0 := rfl
  have w1 : scatter_S128x2048_S64x1_S64x2048_1_0_0_1.window (ix2 q h') 1 = h'.val := rfl
  have s1 : scatter_S128x2048_S64x1_S64x2048_1_0_0_1.start (ix2 q h') idx 1 = 0 := rfl
  have s0 : scatter_S128x2048_S64x1_S64x2048_1_0_0_1.start (ix2 q h') idx 0 = (idx (ix2 q 0)).toInt := by
    unfold ScatterDims.start
    rw [dif_pos (by decide)]
    refine congrArg (fun k => (idx k).toInt) (funext fun a => Fin.ext ?_)
    match a with
    | ⟨0, _⟩ => rfl
    | ⟨1, _⟩ => rfl
  rw [Fin.ext_iff]
  constructor
  · intro g
    have g0 : _ = (r.val : ℤ) := g 0
    have g1 : _ = (h.val : ℤ) := g 1
    rw [w0, s0] at g0
    rw [w1, s1] at g1
    constructor <;> omega
  · rintro ⟨e, f⟩ a
    match a with
    | ⟨0, _⟩ => exact (congrArg₂ (fun (x : ℤ) (n : ℕ) => x + (n : ℤ)) s0 w0).trans (by rw [e]; exact add_zero _)
    | ⟨1, _⟩ => exact (congrArg₂ (fun (x : ℤ) (n : ℕ) => x + (n : ℤ)) s1 w1).trans (by rw [f]; exact zero_add _)

/-- Writes in order, all later ones that hit writing the same: what the first of them leaves. -/
theorem foldl_last {ι α : Type} (P : ι → Prop) [DecidablePred P] (v : ι → α) (w : α) (L : List ι) (h : ∀ n ∈ L, P n → v n = w) :
    L.foldl (fun a n => if P n then v n else a) w = w := by
  induction L with
  | nil => rfl
  | cons n L ih =>
    rw [List.foldl_cons]
    by_cases hp : P n
    · rw [if_pos hp, h n List.mem_cons_self hp]
      exact ih fun k hk => h k (List.mem_cons_of_mem _ hk)
    · rw [if_neg hp]
      exact ih fun k hk => h k (List.mem_cons_of_mem _ hk)

/-- The value the last hit leaves, at least one being known. -/
theorem foldl_hit {N : ℕ} {α : Type} (P : Fin N → Prop) [DecidablePred P] (v : Fin N → α) (x : α) (k : Fin N) (hk : P k)
    (h : ∀ n, k < n → P n → v n = v k) : (List.finRange N).foldl (fun a n => if P n then v n else a) x = v k := by
  obtain ⟨A, B, e⟩ := List.append_of_mem (List.mem_finRange k)
  have lt := List.pairwise_lt_finRange N
  rw [e] at lt ⊢
  rw [List.foldl_append, List.foldl_cons, if_pos hk]
  exact foldl_last P v _ B fun n hn => h n ((List.pairwise_cons.mp (List.pairwise_append.mp lt).2.1).1 n hn)

/-- Batch `b` selects row `r`. -/
def Selects (y : Vec Ideal S4x128 .f32) (b : Fin 4) (r : Fin 128) : Prop := ∃ q : Fin 128, q.val < 16 ∧ order (fun j => y (ix2 b j)) q = r

/-- The index words of the scatter: update `q` goes to the row its batch selects at its place. -/
theorem word_row (y : Vec Ideal S4x128 .f32) (q : Fin 64) : (refIdx (F := Ideal) (refRows y) (ix2 q 0)).toInt
    = (order (fun j => y (ix2 ⟨q.val / 16, by omega⟩ j)) ⟨q.val % 16, by omega⟩).val := by
  rw [refIdx_apply _ q _ (refRows_apply y ⟨q.val / 16, by omega⟩ ⟨q.val % 16, by omega⟩ q (show q.val = q.val / 16 * 16 + q.val % 16 by omega))]
  exact toInt_row (by omega)

/-- An update lands at an entry when its batch selects the row at its place and its column is the entry's. -/
theorem lands_row (y : Vec Ideal S4x128 .f32) (q : Fin 64) (h' : Fin 2048) (r : Fin 128) (h : Fin 2048) :
    scatter_S128x2048_S64x1_S64x2048_1_0_0_1.resultIdx? (ix2 q h') (refIdx (F := Ideal) (refRows y)) = some (ix2 r h)
      ↔ order (fun j => y (ix2 ⟨q.val / 16, by omega⟩ j)) ⟨q.val % 16, by omega⟩ = r ∧ h' = h := by
  rw [lands, word_row]
  exact and_congr_left fun _ => Int.natCast_inj.trans Fin.ext_iff.symm

/-- A row some batch selects ends with the update of the last that does. -/
theorem bank_hit (y : Vec Ideal S4x128 .f32) (x : Vec Ideal S128x2048 .f32) (u : Vec Ideal S4x2048 .f32) (r : Fin 128) (h : Fin 2048) (b : Fin 4)
    (hb : Selects y b r) (hl : ∀ b', b < b' → ¬Selects y b' r) : refBank x (refRows y) u (ix2 r h) = u (ix2 b h) := by
  obtain ⟨p, hp, e⟩ := hb
  unfold refBank
  rw [Routing.scatter_at]
  have hq : b.val * 16 + p.val < 64 := by omega
  refine (foldl_hit (fun n => scatter_S128x2048_S64x1_S64x2048_1_0_0_1.resultIdx? (S64x2048.rowMajor.symm n) (refIdx (F := Ideal) (refRows y)) = some (ix2 r h)) _ _
    (S64x2048.rowMajor (ix2 ⟨b.val * 16 + p.val, hq⟩ h)) ?_ fun n hn hP => ?_).trans ?_
  · rw [Equiv.symm_apply_apply, lands_row]
    refine ⟨?_, rfl⟩
    rw [← e]
    exact congrArg₂ (fun (i : Fin 4) k => order (fun j => y (ix2 i j)) k) (Fin.ext (show (b.val * 16 + p.val) / 16 = b.val by omega))
      (Fin.ext (show (b.val * 16 + p.val) % 16 = p.val by omega))
  · obtain ⟨i, rfl⟩ := S64x2048.rowMajor.surjective n
    obtain ⟨q, h', rfl⟩ : ∃ (q : Fin 64) (h' : Fin 2048), i = ix2 q h' := by
      idx_vars i
      exact ⟨_, _, rfl⟩
    rw [Equiv.symm_apply_apply] at hP ⊢
    rw [Equiv.symm_apply_apply]
    obtain ⟨er, rfl⟩ := (lands_row y q h' r h).1 hP
    have lt : _ < _ := hn
    rw [Fin.lt_def, Shape.rowMajor_val_two, Shape.rowMajor_val_two] at lt
    change (b.val * 16 + p.val) * 2048 + h'.val < q.val * 2048 + h'.val at lt
    have nb : ¬b.val < q.val / 16 := fun g => hl ⟨q.val / 16, by omega⟩ g ⟨⟨q.val % 16, by omega⟩, by show q.val % 16 < 16; omega, er⟩
    rw [updates_apply u ⟨q.val / 16, by omega⟩ ⟨q.val % 16, by omega⟩ q (show q.val = q.val / 16 * 16 + q.val % 16 by omega) h',
      updates_apply u b ⟨p.val, hp⟩ ⟨b.val * 16 + p.val, hq⟩ rfl h']
    exact congrArg (fun i => u (ix2 i h')) (Fin.ext (show q.val / 16 = b.val by omega))
  · rw [Equiv.symm_apply_apply]
    exact updates_apply u b ⟨p.val, hp⟩ ⟨b.val * 16 + p.val, hq⟩ rfl h

/-- A row no batch selects keeps its old entry. -/
theorem bank_miss (y : Vec Ideal S4x128 .f32) (x : Vec Ideal S128x2048 .f32) (u : Vec Ideal S4x2048 .f32) (r : Fin 128) (h : Fin 2048)
    (hl : ∀ b, ¬Selects y b r) : refBank x (refRows y) u (ix2 r h) = x (ix2 r h) := by
  unfold refBank
  refine Routing.scatter_set_miss _ _ _ _ _ fun i hi => ?_
  obtain ⟨q, h', rfl⟩ : ∃ (q : Fin 64) (h' : Fin 2048), i = ix2 q h' := by
    idx_vars i
    exact ⟨_, _, rfl⟩
  exact hl ⟨q.val / 16, by omega⟩ ⟨⟨q.val % 16, by omega⟩, by show q.val % 16 < 16; omega, ((lands_row y q h' r h).1 hi).1⟩

/-- The reference's new bank at an entry: the update of the last batch that selects the row, or the old entry. -/
theorem refBank_apply (y : Vec Ideal S4x128 .f32) (x : Vec Ideal S128x2048 .f32) (u : Vec Ideal S4x2048 .f32) (r : Fin 128) (h : Fin 2048) :
    refBank x (refRows y) u (ix2 r h) = open Classical in
      if Selects y 3 r then u (ix2 3 h) else if Selects y 2 r then u (ix2 2 h) else if Selects y 1 r then u (ix2 1 h)
      else if Selects y 0 r then u (ix2 0 h) else x (ix2 r h) := by
  have four : ∀ {P : Fin 4 → Prop}, P 0 → P 1 → P 2 → P 3 → ∀ b, P b := fun h0 h1 h2 h3 b => by
    match b with
    | 0 => exact h0
    | 1 => exact h1
    | 2 => exact h2
    | 3 => exact h3
  split_ifs with h3 h2 h1 h0
  · exact bank_hit y x u r h 3 h3 (four (nofun) nofun nofun nofun)
  · exact bank_hit y x u r h 2 h2 (four nofun nofun nofun fun _ => h3)
  · exact bank_hit y x u r h 1 h1 (four nofun nofun (fun _ => h2) fun _ => h3)
  · exact bank_hit y x u r h 0 h0 (four nofun (fun _ => h1) (fun _ => h2) fun _ => h3)
  · exact bank_miss y x u r h (four h0 h1 h2 h3)

end Cert.Math

end
-- ==== Proof.Math.Bank.lean ====
module

public import proofs.«01_k».proof.Proof.Math.Alloc
public import proofs.«01_k».proof.Proof.Math.Scatter

/-! The new bank: the kernel's updates and its winners' rows against the reference's scatter. -/

@[expose] public section

set_option maxRecDepth 16384

noncomputable section

namespace Cert.Math

open Idealize.ShloMosaic Idealize.ShloMosaic.TcCoe
open Cert.KernelIdeal Cert.KernelIdeal.Gen Cert.KernelIdeal.Hand Cert.ReferenceIdeal.Hand

variable (m : (ℓ : Loc nD τ sig) → Buf (Elt Ideal) ℓ) (c : Dev nD)

/-- The kernel's updates before their sigmoid are the reference's: the mean of the first result, projected. -/
theorem updFin_eq : updFin m c
    = refPre (refMean (out0 m c)) (m ((c.tc : Thread nD τ).loc main_arg7)) (m ((c.tc : Thread nD τ).loc main_arg8)) := by
  funext y
  idx_vars y
  have hp : (pt (32 + y1.val / 128)).val = 32 + y1.val / 128 := pt_val _ (by omega)
  have ht : 32 ≤ (pt (32 + y1.val / 128)).val ∧ (pt (32 + y1.val / 128)).val < 48 := by rw [hp]; omega
  have hc : k0_cond7 (grid0.coords (pt (32 + y1.val / 128))) = 1#1 := (c7_iff _).2 ht
  have loc : updLoc (ix2 y0 y1) = ix2 y0 ⟨y1.val % 128, by omega⟩ := by
    funext a
    match a with
    | 0 => rfl
    | 1 => rfl
  show updCol m c (pt (32 + y1.val / 128)) (updLoc (ix2 y0 y1)) = _
  rw [loc, mean_out0]
  unfold updCol
  rw [dif_pos hc]
  have bias : VecWindow.window (buB m c (pt (32 + y1.val / 128))) (k0_off3 (grid0.coords (pt (32 + y1.val / 128)))) S1x128.size (k0_off3_inb _ hc)
      (ix2 0 ⟨y1.val % 128, by omega⟩) = m ((c.tc : Thread nD τ).loc main_arg8) (ix1 y1) := by
    rw [← buB_apply m c (pt (32 + y1.val / 128)) y1]
    unfold VecWindow.window
    refine congrArg _ (funext fun a => Fin.ext ?_)
    have ho := off3_at _ ht
    match a with
    | 0 =>
      show k0_off3 (grid0.coords (pt (32 + y1.val / 128))) 0 + 1 * 0 = 0
      rw [ho]
      rfl
    | 1 =>
      show k0_off3 (grid0.coords (pt (32 + y1.val / 128))) 1 + 1 * (y1.val % 128) = y1.val
      rw [ho]
      show 128 * ((pt (32 + y1.val / 128)).val - 32) + 1 * (y1.val % 128) = y1.val
      rw [hp]
      omega
  unfold k0_pay6
  pointwise [refPre]
  rw [bias]
  refine congrArg (· + _) (Finset.sum_congr rfl fun x _ => ?_)
  rw [wuB_apply m c _ ht]
  refine congrArg (fun k => accFin m c (ix2 y0 x) * m ((c.tc : Thread nD τ).loc main_arg7) (ix2 k x)) (Fin.ext ?_)
  show ((pt (32 + y1.val / 128)).val - 32) * 128 + y1.val % 128 = y1.val
  rw [hp]
  omega

/-- **The kernel's second result is the reference's**, the largest scores being finite. -/
theorem result1 (hf : Finite m c) : bankFin m c = out1 m c := by
  funext y
  idx_vars y
  rw [bankFin_apply m c hf, updFin_eq]
  exact (refBank_apply (refSoft (allocScores m c)) _ _ y0 y1).symm

end Cert.Math

end
-- ==== Proof.Ends.lean ====
module

public import proofs.«01_k».proof.Defs
public import proofs.«01_k».proof.Proof.KI.Frame
public import proofs.«01_k».proof.Proof.Math.Bank

/-! What both ideal programs end with, from the kernel's arguments, and the two claims on their results. -/

@[expose] public section

set_option maxRecDepth 16384

noncomputable section

namespace Cert.Proof

open Idealize.ShloMosaic Idealize.ShloMosaic.TcCoe Idealize.SL.Sem
open Cert.ReferenceIdeal.Hand Cert.KernelIdeal.Hand Cert.Math

/-- The kernel ends with the reference's first result, its new bank, and its arguments kept. -/
theorem kernel_ends (m : (ℓ : Loc KernelIdeal.nD KernelIdeal.τ KernelIdeal.sig) → Buf (Elt Ideal) ℓ) (g : Dev KernelIdeal.nD → PrngReg) :
    θ_run (KernelIdeal.defs (F := Ideal)) (onTc (τ := KernelIdeal.τ) (KernelIdeal.main (F := Ideal))) ⟨m, fun _ => 0, g⟩ fun r =>
      ∀ c : Dev KernelIdeal.nD, r.2.mem ((c.tc : Thread KernelIdeal.nD KernelIdeal.τ).loc KernelIdeal.main_v9_1) = out0 m c
        ∧ r.2.mem ((c.tc : Thread KernelIdeal.nD KernelIdeal.τ).loc KernelIdeal.main_v9_0) = bankFin m c ∧ ArgsKept m c r :=
  (θ_run _ _ _).mono (fun r h c => ⟨((h.1 c).1 10).trans (result0 m c), ((h.1 c).1 9).trans (bank_array m c), argsKept_of_framePost m r h.1 c⟩)
    (run_main m g)

/-- The two memories hold the same arguments. -/
abbrev Agree (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD) : Prop :=
  m' ((c.tc : Thread ReferenceIdeal.nD ReferenceIdeal.τ).loc ReferenceIdeal.main_arg0) = m ((c.tc : Thread KernelIdeal.nD KernelIdeal.τ).loc KernelIdeal.main_arg0)
  ∧ m' ((c.tc : Thread ReferenceIdeal.nD ReferenceIdeal.τ).loc ReferenceIdeal.main_arg1) = m ((c.tc : Thread KernelIdeal.nD KernelIdeal.τ).loc KernelIdeal.main_arg1)
  ∧ m' ((c.tc : Thread ReferenceIdeal.nD ReferenceIdeal.τ).loc ReferenceIdeal.main_arg2) = m ((c.tc : Thread KernelIdeal.nD KernelIdeal.τ).loc KernelIdeal.main_arg2)
  ∧ m' ((c.tc : Thread ReferenceIdeal.nD ReferenceIdeal.τ).loc ReferenceIdeal.main_arg3) = m ((c.tc : Thread KernelIdeal.nD KernelIdeal.τ).loc KernelIdeal.main_arg3)
  ∧ m' ((c.tc : Thread ReferenceIdeal.nD ReferenceIdeal.τ).loc ReferenceIdeal.main_arg4) = m ((c.tc : Thread KernelIdeal.nD KernelIdeal.τ).loc KernelIdeal.main_arg4)
  ∧ m' ((c.tc : Thread ReferenceIdeal.nD ReferenceIdeal.τ).loc ReferenceIdeal.main_arg5) = m ((c.tc : Thread KernelIdeal.nD KernelIdeal.τ).loc KernelIdeal.main_arg5)
  ∧ m' ((c.tc : Thread ReferenceIdeal.nD ReferenceIdeal.τ).loc ReferenceIdeal.main_arg6) = m ((c.tc : Thread KernelIdeal.nD KernelIdeal.τ).loc KernelIdeal.main_arg6)
  ∧ m' ((c.tc : Thread ReferenceIdeal.nD ReferenceIdeal.τ).loc ReferenceIdeal.main_arg7) = m ((c.tc : Thread KernelIdeal.nD KernelIdeal.τ).loc KernelIdeal.main_arg7)
  ∧ m' ((c.tc : Thread ReferenceIdeal.nD ReferenceIdeal.τ).loc ReferenceIdeal.main_arg8) = m ((c.tc : Thread KernelIdeal.nD KernelIdeal.τ).loc KernelIdeal.main_arg8)
  ∧ m' ((c.tc : Thread ReferenceIdeal.nD ReferenceIdeal.τ).loc ReferenceIdeal.main_arg9) = m ((c.tc : Thread KernelIdeal.nD KernelIdeal.τ).loc KernelIdeal.main_arg9)

/-- Device `c`'s arguments hold at `r` what they held in `m`, in the reference. -/
abbrev RefKept (m : (ℓ : Loc ReferenceIdeal.nD ReferenceIdeal.τ ReferenceIdeal.sig) → Buf (Elt Ideal) ℓ) (c : Dev ReferenceIdeal.nD)
    (r : PUnit × MemSt ReferenceIdeal.nD ReferenceIdeal.τ ReferenceIdeal.sig (Elt Ideal)) : Prop :=
  r.2.mem ((c.tc : Thread ReferenceIdeal.nD ReferenceIdeal.τ).loc ReferenceIdeal.main_arg0) = m ((c.tc : Thread ReferenceIdeal.nD ReferenceIdeal.τ).loc ReferenceIdeal.main_arg0)
  ∧ r.2.mem ((c.tc : Thread ReferenceIdeal.nD ReferenceIdeal.τ).loc ReferenceIdeal.main_arg1) = m ((c.tc : Thread ReferenceIdeal.nD ReferenceIdeal.τ).loc ReferenceIdeal.main_arg1)
  ∧ r.2.mem ((c.tc : Thread ReferenceIdeal.nD ReferenceIdeal.τ).loc ReferenceIdeal.main_arg2) = m ((c.tc : Thread ReferenceIdeal.nD ReferenceIdeal.τ).loc ReferenceIdeal.main_arg2)
  ∧ r.2.mem ((c.tc : Thread ReferenceIdeal.nD ReferenceIdeal.τ).loc ReferenceIdeal.main_arg3) = m ((c.tc : Thread ReferenceIdeal.nD ReferenceIdeal.τ).loc ReferenceIdeal.main_arg3)
  ∧ r.2.mem ((c.tc : Thread ReferenceIdeal.nD ReferenceIdeal.τ).loc ReferenceIdeal.main_arg4) = m ((c.tc : Thread ReferenceIdeal.nD ReferenceIdeal.τ).loc ReferenceIdeal.main_arg4)
  ∧ r.2.mem ((c.tc : Thread ReferenceIdeal.nD ReferenceIdeal.τ).loc ReferenceIdeal.main_arg5) = m ((c.tc : Thread ReferenceIdeal.nD ReferenceIdeal.τ).loc ReferenceIdeal.main_arg5)
  ∧ r.2.mem ((c.tc : Thread ReferenceIdeal.nD ReferenceIdeal.τ).loc ReferenceIdeal.main_arg6) = m ((c.tc : Thread ReferenceIdeal.nD ReferenceIdeal.τ).loc ReferenceIdeal.main_arg6)
  ∧ r.2.mem ((c.tc : Thread ReferenceIdeal.nD ReferenceIdeal.τ).loc ReferenceIdeal.main_arg7) = m ((c.tc : Thread ReferenceIdeal.nD ReferenceIdeal.τ).loc ReferenceIdeal.main_arg7)
  ∧ r.2.mem ((c.tc : Thread ReferenceIdeal.nD ReferenceIdeal.τ).loc ReferenceIdeal.main_arg8) = m ((c.tc : Thread ReferenceIdeal.nD ReferenceIdeal.τ).loc ReferenceIdeal.main_arg8)
  ∧ r.2.mem ((c.tc : Thread ReferenceIdeal.nD ReferenceIdeal.τ).loc ReferenceIdeal.main_arg9) = m ((c.tc : Thread ReferenceIdeal.nD ReferenceIdeal.τ).loc ReferenceIdeal.main_arg9)

/-- The reference ends with its two results of the kernel's arguments, and its arguments kept. -/
theorem reference_ends (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (g' : Dev ReferenceIdeal.nD → PrngReg)
    (hm : ∀ c : Dev KernelIdeal.nD, Agree m m' c) :
    θ_run (ReferenceIdeal.defs (F := Ideal)) (onTc (τ := ReferenceIdeal.τ) (ReferenceIdeal.main (F := Ideal))) ⟨m', fun _ => 0, g'⟩ fun r =>
      ∀ c : Dev KernelIdeal.nD, r.2.mem ((c.tc : Thread ReferenceIdeal.nD ReferenceIdeal.τ).loc ReferenceIdeal.main_v45) = out0 m c
        ∧ r.2.mem ((c.tc : Thread ReferenceIdeal.nD ReferenceIdeal.τ).loc ReferenceIdeal.main_v69) = out1 m c
        ∧ RefKept m' c r := by
  refine (θ_run _ _ _).mono (fun r h c => ?_) (run_stages (F := Ideal) m' g')
  obtain ⟨h0, h1, h2, h3, h4, h5, h6, h7, h8, h9⟩ := hm c
  refine ⟨(h c _).trans ((all_out0 _).trans ?_), (h c _).trans ((all_out1 _).trans ?_),
    (h c _).trans (all_keeps _ (by decide)), (h c _).trans (all_keeps _ (by decide)), (h c _).trans (all_keeps _ (by decide)),
    (h c _).trans (all_keeps _ (by decide)), (h c _).trans (all_keeps _ (by decide)), (h c _).trans (all_keeps _ (by decide)),
    (h c _).trans (all_keeps _ (by decide)), (h c _).trans (all_keeps _ (by decide)), (h c _).trans (all_keeps _ (by decide)),
    (h c _).trans (all_keeps _ (by decide))⟩
  · unfold out0 hid
    rw [← h0, ← h1, ← h2, ← h5, ← h6, ← h9]
  · unfold out1 out0 hid
    rw [← h0, ← h1, ← h2, ← h3, ← h4, ← h5, ← h6, ← h7, ← h8, ← h9]

/-- The mask's shape facts. -/
theorem first_facts : Cert.On_first_result.Facts where
  bcast_S_S4x4096x2048 := by decide
  bcast_S_S128x2048 := by decide

/-- **The first result of the kernel is the reference's**, for every input. -/
theorem first_covered : @Cert.algebraic_KernelIdeal_ReferenceIdeal_on_first_result Cert.KernelIdeal.Gen.facts Cert.ReferenceIdeal.Gen.facts first_facts := by
  intro m g m' g' _ hm
  refine ⟨fun c => out0 m c, fun c => bankFin m c, (θ_run _ _ _).mono (fun r h c => ?_) (kernel_ends m g),
    (θ_run _ _ _).mono (fun r h c => ?_) (reference_ends m m' g' hm)⟩
  · exact ⟨fun i _ => congrFun (h c).1 i, fun i _ => congrFun (h c).2.1 i, (h c).2.2⟩
  · refine ⟨fun i _ => congrFun (h c).1 i, fun i hi => absurd (show (0#1 : BitVec 1) = 1#1 from hi) (by decide), (h c).2.2⟩

/-- The precondition's shape facts. -/
theorem finite_facts : Cert.Pre_largest_scores_finite.Facts where
  reducesTo_S4x4096x2048_S4x2048_d1 := by decide
  h_S_ := by decide
  bcast_S_S4x2048 := by decide
  transposes_S128x2048_S2048x128_1_0 := by decide
  bcast_S128_S1x128_1 := by decide
  bcast_S1x128_S4x128_0_1 := by decide
  reducesTo_S4x128_S4_d1 := by decide
  bcast_S_S4 := by decide
  dot_S4x2048_S2048x128_S4x128_1_0_0_1_n_n_wf := by decide

/-- Where the precondition holds, every batch's largest allocation score is finite. -/
theorem finite_of_pre (m : (ℓ : Loc KernelIdeal.nD KernelIdeal.τ KernelIdeal.sig) → Buf (Elt Ideal) ℓ)
    (h : @Cert.Pre_KernelIdeal_largest_scores_finite finite_facts m) (c : Dev KernelIdeal.nD) : Finite m c := by
  intro b
  have e : cmpf (F := Ideal) (φ := .f32) .olt (Host.absf (Host.reduce (FloatOps.maximumf (F := Ideal) (φ := .f32)) (allocScores m c : FVec Ideal ReferenceIdeal.S4x128 .f32) (constant ReferenceIdeal.S_ .f32 0xFF800000#32) ReferenceIdeal.Gen.facts.reducesTo_S4x128_S4_d1
      ReferenceIdeal.Gen.facts.h_S_)) (broadcastInDim ReferenceIdeal.S4 ![] finite_facts.bcast_S_S4 (constant ReferenceIdeal.S_ .f32 0x7F800000#32)) (ix1 b) = 1#1 := congrFun (h c) (ix1 b)
  revert e
  pointwise []
  rw [lit_bot, lit_top]
  generalize Finset.fold max ⊥ (fun k => allocScores m c (ix2 b k)) Finset.univ = M
  intro e
  have lt : max M (-M) < ⊤ := of_decide_eq_true ((ofBool_one _).1 e)
  refine ⟨fun g => ?_, fun g => ?_⟩ <;> rw [g] at lt
  · exact (lt_of_le_of_lt (le_max_right _ _) lt).ne EReal.neg_bot
  · exact (lt_of_le_of_lt (le_max_left _ _) lt).ne rfl

/-- **Both results of the kernel are the reference's**, the largest allocation scores being finite. -/
theorem both_covered : @Cert.algebraic_KernelIdeal_ReferenceIdeal_pre_largest_scores_finite Cert.KernelIdeal.Gen.facts Cert.ReferenceIdeal.Gen.facts
    finite_facts := by
  intro m g m' g' hp hm
  exact ⟨fun c => out0 m c, fun c => out1 m c,
    (θ_run _ _ _).mono (fun r h c => ⟨(h c).1, (h c).2.1.trans (result1 m c (finite_of_pre m hp c)), (h c).2.2⟩) (kernel_ends m g),
    (θ_run _ _ _).mono (fun r h c => h c) (reference_ends m m' g' hm)⟩

end Cert.Proof

end
-- ==== Proof.lean ====
module

public import proofs.«01_k».proof.Defs
public import proofs.«01_k».proof.Proof.KernelFrame
public import proofs.«01_k».proof.Proof.Ref.Run
public import proofs.«01_k».proof.Proof.Ends

/-! The certificate: the frames of the kernel and of both ideal programs, the ideal kernel being the kernel, and both results. -/

@[expose] public section

noncomputable section

namespace Cert.Proof

open Idealize.ShloMosaic Idealize.SL.Sem

/-- Every claim of the certificate. -/
theorem claim : Cert.Claim := ⟨Cert.Kernel.Gen.facts, Cert.KernelIdeal.Gen.facts, Cert.ReferenceIdeal.Gen.facts, finite_facts, first_facts,
  kernel_frame, fun m g _ => Cert.KernelIdeal.Hand.frame_kept m g, fun m g _ => Cert.KernelIdeal.Hand.frame_kept m g,
  reference_frame, fun m g _ => reference_frame m g trivial, trivial, both_covered, first_covered⟩

end Cert.Proof

end
